-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1)
      ∧ r.2.mem ((c.tc : Thread Cert.AttnInReferenceIdeal.nD Cert.AttnInReferenceIdeal.τ).loc Cert.AttnInReferenceIdeal.main_arg2) = m ((c.tc : Thread Cert.AttnInReferenceIdeal.nD Cert.AttnInReferenceIdeal.τ).loc Cert.AttnInReferenceIdeal.main_arg2)
      ∧ r.2.mem ((c.tc : Thread Cert.AttnInReferenceIdeal.nD Cert.AttnInReferenceIdeal.τ).loc Cert.AttnInReferenceIdeal.main_arg3) = m ((c.tc : Thread Cert.AttnInReferenceIdeal.nD Cert.AttnInReferenceIdeal.τ).loc Cert.AttnInReferenceIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2)
      ∧ r.2.mem ((c.tc : Thread Cert.ConvInReferenceIdeal.nD Cert.ConvInReferenceIdeal.τ).loc Cert.ConvInReferenceIdeal.main_arg3) = m ((c.tc : Thread Cert.ConvInReferenceIdeal.nD Cert.ConvInReferenceIdeal.τ).loc Cert.ConvInReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_AttnIn_AttnInIdeal : Prop :=
  True

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)
      ∧ m' ((c.tc : Thread Cert.AttnInReferenceIdeal.nD Cert.AttnInReferenceIdeal.τ).loc Cert.AttnInReferenceIdeal.main_arg2) = m ((c.tc : Thread Cert.AttnInIdeal.nD Cert.AttnInIdeal.τ).loc Cert.AttnInIdeal.main_arg2)
      ∧ m' ((c.tc : Thread Cert.AttnInReferenceIdeal.nD Cert.AttnInReferenceIdeal.τ).loc Cert.AttnInReferenceIdeal.main_arg3) = m ((c.tc : Thread Cert.AttnInIdeal.nD Cert.AttnInIdeal.τ).loc Cert.AttnInIdeal.main_arg3)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v50) = v0 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1)
          ∧ r.2.mem ((c.tc : Thread Cert.AttnInReferenceIdeal.nD Cert.AttnInReferenceIdeal.τ).loc Cert.AttnInReferenceIdeal.main_arg2) = m' ((c.tc : Thread Cert.AttnInReferenceIdeal.nD Cert.AttnInReferenceIdeal.τ).loc Cert.AttnInReferenceIdeal.main_arg2)
          ∧ r.2.mem ((c.tc : Thread Cert.AttnInReferenceIdeal.nD Cert.AttnInReferenceIdeal.τ).loc Cert.AttnInReferenceIdeal.main_arg3) = m' ((c.tc : Thread Cert.AttnInReferenceIdeal.nD Cert.AttnInReferenceIdeal.τ).loc Cert.AttnInReferenceIdeal.main_arg3))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v15) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_ConvIn_ConvInIdeal : Prop :=
  True

def algebraic_ConvInIdeal_ConvInReferenceIdeal [hConvInIdeal : Cert.ConvInIdeal.Facts] [hConvInReferenceIdeal : Cert.ConvInReferenceIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInIdeal m →
    (∀ c : Dev Cert.ConvInIdeal.nD,
      m' ((c.tc : Thread Cert.ConvInReferenceIdeal.nD Cert.ConvInReferenceIdeal.τ).loc Cert.ConvInReferenceIdeal.main_arg0) = m ((c.tc : Thread Cert.ConvInIdeal.nD Cert.ConvInIdeal.τ).loc Cert.ConvInIdeal.main_arg0)
      ∧ m' ((c.tc : Thread Cert.ConvInReferenceIdeal.nD Cert.ConvInReferenceIdeal.τ).loc Cert.ConvInReferenceIdeal.main_arg1) = m ((c.tc : Thread Cert.ConvInIdeal.nD Cert.ConvInIdeal.τ).loc Cert.ConvInIdeal.main_arg1)
      ∧ m' ((c.tc : Thread Cert.ConvInReferenceIdeal.nD Cert.ConvInReferenceIdeal.τ).loc Cert.ConvInReferenceIdeal.main_arg2) = m ((c.tc : Thread Cert.ConvInIdeal.nD Cert.ConvInIdeal.τ).loc Cert.ConvInIdeal.main_arg2)
      ∧ m' ((c.tc : Thread Cert.ConvInReferenceIdeal.nD Cert.ConvInReferenceIdeal.τ).loc Cert.ConvInReferenceIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v26) = v0 c
          ∧ r.2.mem ((c.tc : Thread Cert.ConvInReferenceIdeal.nD Cert.ConvInReferenceIdeal.τ).loc Cert.ConvInReferenceIdeal.main_v29) = v1 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2)
          ∧ r.2.mem ((c.tc : Thread Cert.ConvInReferenceIdeal.nD Cert.ConvInReferenceIdeal.τ).loc Cert.ConvInReferenceIdeal.main_arg3) = m' ((c.tc : Thread Cert.ConvInReferenceIdeal.nD Cert.ConvInReferenceIdeal.τ).loc Cert.ConvInReferenceIdeal.main_arg3))

def Claim : Prop :=
  ∃ (hKernel : Cert.Kernel.Facts) (hKernelIdeal : Cert.KernelIdeal.Facts) (hReferenceIdeal : Cert.ReferenceIdeal.Facts) (hAttnIn : Cert.AttnIn.Facts) (hAttnInIdeal : Cert.AttnInIdeal.Facts) (hAttnInReferenceIdeal : Cert.AttnInReferenceIdeal.Facts) (hAttnOut : Cert.AttnOut.Facts) (hAttnOutIdeal : Cert.AttnOutIdeal.Facts) (hAttnOutReferenceIdeal : Cert.AttnOutReferenceIdeal.Facts) (hConvIn : Cert.ConvIn.Facts) (hConvInIdeal : Cert.ConvInIdeal.Facts) (hConvInReferenceIdeal : Cert.ConvInReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_ConvIn (hConvIn := hConvIn)
    ∧ quiescent_ConvInIdeal (hConvInIdeal := hConvInIdeal)
    ∧ quiescent_ConvInReferenceIdeal (hConvInReferenceIdeal := hConvInReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_AttnIn_AttnInIdeal
    ∧ algebraic_AttnInIdeal_AttnInReferenceIdeal (hAttnInIdeal := hAttnInIdeal) (hAttnInReferenceIdeal := hAttnInReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_ConvIn_ConvInIdeal
    ∧ algebraic_ConvInIdeal_ConvInReferenceIdeal (hConvInIdeal := hConvInIdeal) (hConvInReferenceIdeal := hConvInReferenceIdeal)
-- ==== Pre_finite_qk.lean ====
abbrev S16384x8192 : Shape := ⟨2, ![16384, 8192]⟩
abbrev S16384x4096 : Shape := ⟨2, ![16384, 4096]⟩
abbrev S_ : Shape := ⟨0, ![]⟩

class Facts : Prop where
  slices_S16384x8192_S16384x4096_0_0 : S16384x8192.Slices ![0, 0] S16384x4096
  bitsLt_bf16_f32 : FTy.bits .bf16 < FTy.bits .f32
  bcast_S_S16384x4096 : S_.BroadcastsInDim S16384x4096 (![] : Fin 0 → Fin S16384x4096.rank)

variable [Facts]

def fn {F : FTy → Type} [FloatOps F] (main_arg0 : FVec F S16384x8192 .bf16) : IVec S16384x4096 1 :=
  let main_v0 : FVec F S16384x4096 .bf16 := (extractStridedSlice S16384x4096 ![0, 0] · slices_S16384x8192_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  main_v4
-- ==== Kernel.lean ====
abbrev S16384x8192 : Shape := ⟨2, ![16384, 8192]⟩
abbrev S16384x2048 : Shape := ⟨2, ![16384, 2048]⟩
abbrev S2048x512 : Shape := ⟨2, ![2048, 512]⟩
abbrev S4x144x2048 : Shape := ⟨3, ![4, 144, 2048]⟩
abbrev S2048x256 : Shape := ⟨2, ![2048, 256]⟩
abbrev S256x128 : Shape := ⟨2, ![256, 128]⟩
abbrev S128x256 : Shape := ⟨2, ![128, 256]⟩
abbrev S1x128x256 : Shape := ⟨3, ![1, 128, 256]⟩
abbrev S16x2048 : Shape := ⟨2, ![16, 2048]⟩
abbrev S1x16x2048 : Shape := ⟨3, ![1, 16, 2048]⟩
abbrev S256x256 : Shape := ⟨2, ![256, 256]⟩
abbrev S8x256 : Shape := ⟨2, ![8, 256]⟩
abbrev S256 : Shape := ⟨1, ![256]⟩
abbrev S1x256 : Shape := ⟨2, ![1, 256]⟩
abbrev S512x128 : Shape := ⟨2, ![512, 128]⟩
abbrev S512x256 : Shape := ⟨2, ![512, 256]⟩
abbrev S7x256 : Shape := ⟨2, ![7, 256]⟩
abbrev S768x128 : Shape := ⟨2, ![768, 128]⟩
abbrev S768x256 : Shape := ⟨2, ![768, 256]⟩
abbrev S6x256 : Shape := ⟨2, ![6, 256]⟩
abbrev S1x144x256 : Shape := ⟨3, ![1, 144, 256]⟩
abbrev S144x256 : Shape := ⟨2, ![144, 256]⟩
abbrev S1024x128 : Shape := ⟨2, ![1024, 128]⟩
abbrev S1024x256 : Shape := ⟨2, ![1024, 256]⟩
abbrev S5x256 : Shape := ⟨2, ![5, 256]⟩
abbrev S1x144x512 : Shape := ⟨3, ![1, 144, 512]⟩
abbrev S144x512 : Shape := ⟨2, ![144, 512]⟩
abbrev S1280x128 : Shape := ⟨2, ![1280, 128]⟩
abbrev S1280x256 : Shape := ⟨2, ![1280, 256]⟩
abbrev S4x256 : Shape := ⟨2, ![4, 256]⟩
abbrev S1x144x768 : Shape := ⟨3, ![1, 144, 768]⟩
abbrev S144x768 : Shape := ⟨2, ![144, 768]⟩
abbrev S1536x128 : Shape := ⟨2, ![1536, 128]⟩
abbrev S1536x256 : Shape := ⟨2, ![1536, 256]⟩
abbrev S3x256 : Shape := ⟨2, ![3, 256]⟩
abbrev S1x144x1024 : Shape := ⟨3, ![1, 144, 1024]⟩
abbrev S144x1024 : Shape := ⟨2, ![144, 1024]⟩
abbrev S1792x128 : Shape := ⟨2, ![1792, 128]⟩
abbrev S1792x256 : Shape := ⟨2, ![1792, 256]⟩
abbrev S2x256 : Shape := ⟨2, ![2, 256]⟩
abbrev S1x144x1280 : Shape := ⟨3, ![1, 144, 1280]⟩
abbrev S144x1280 : Shape := ⟨2, ![144, 1280]⟩
abbrev S2048x128 : Shape := ⟨2, ![2048, 128]⟩
abbrev S1x144x1536 : Shape := ⟨3, ![1, 144, 1536]⟩
abbrev S144x1536 : Shape := ⟨2, ![144, 1536]⟩
abbrev S1x144x1792 : Shape := ⟨3, ![1, 144, 1792]⟩
abbrev S144x1792 : Shape := ⟨2, ![144, 1792]⟩
abbrev S1x144x2048 : Shape := ⟨3, ![1, 144, 2048]⟩
abbrev S144x2048 : Shape := ⟨2, ![144, 2048]⟩

abbrev nBuf : Space → Nat
  | .hbm => 2
  | .vmem => 16
  | .smem => 0
  | _ => 0

abbrev bufTy : (tb : Table) → Fin (tcTables nBuf tb) → BufTy
  | .hbm, ⟨0, _⟩ => ⟨S16384x8192, .bf16⟩
  | .hbm, ⟨1, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4x144x2048, .bf16⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x8192 : Shape := ⟨2, ![16384, 8192]⟩
abbrev S8x2048x8192 : Shape := ⟨3, ![8, 2048, 8192]⟩
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S8x16x8x256x128 : Shape := ⟨5, ![8, 16, 8, 256, 128]⟩
abbrev S_ : Shape := ⟨0, ![]⟩
abbrev S8x16x8x128 : Shape := ⟨4, ![8, 16, 8, 128]⟩
abbrev S8x16x2048x8 : Shape := ⟨4, ![8, 16, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x16x2048x3 : Shape := ⟨4, ![8, 16, 2048, 3]⟩
abbrev S8x16x2048x3x1 : Shape := ⟨5, ![8, 16, 2048, 3, 1]⟩
abbrev S1x1x1x1x8 : Shape := ⟨5, ![1, 1, 1, 1, 8]⟩
abbrev S8x16x2048x3x8 : Shape := ⟨5, ![8, 16, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S8x16x2048x8x256 : Shape := ⟨5, ![8, 16, 2048, 8, 256]⟩
abbrev S8x16x2048x2048 : Shape := ⟨4, ![8, 16, 2048, 2048]⟩
abbrev S1x1x2048x2048 : Shape := ⟨4, ![1, 1, 2048, 2048]⟩
abbrev S8x16x2048 : Shape := ⟨3, ![8, 16, 2048]⟩
abbrev S8x16x2048x1 : Shape := ⟨4, ![8, 16, 2048, 1]⟩
abbrev S16384x2048 : Shape := ⟨2, ![16384, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .f32⟩
  | .hbm, ⟨2, _⟩ => ⟨S8x2048x8192, .f32⟩
  | .hbm, ⟨3, _⟩ => ⟨S8x2048x2048, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x16x128, .f32⟩
  | .hbm, ⟨8, _⟩ => ⟨S8x16x2048x128, .f32⟩
  | .hbm, ⟨9, _⟩ => ⟨S8x2048x16x128, .f32⟩
  | .hbm, ⟨10, _⟩ => ⟨S8x16x2048x128, .f32⟩
  | .hbm, ⟨11, _⟩ => ⟨S8x2048x16x128, .f32⟩
  | .hbm, ⟨12, _⟩ => ⟨S8x16x2048x128, .f32⟩
  | .hbm, ⟨13, _⟩ => ⟨S8x16x8x256x128, .f32⟩
  | .hbm, ⟨14, _⟩ => ⟨S_, .f32⟩
  | .hbm, ⟨15, _⟩ => ⟨S8x16x8x128, .f32⟩
  | .hbm, ⟨16, _⟩ => ⟨S_, .f32⟩
  | .hbm, ⟨17, _⟩ => ⟨S8x16x8x128, .f32⟩
  | .hbm, ⟨18, _⟩ => ⟨S8x16x8x128, .f32⟩
  | .hbm, ⟨19, _⟩ => ⟨S8x16x2048x8, .f32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S8, .i32⟩
  | .hbm, ⟨25, _⟩ => ⟨S1x8, .i32⟩
  | .hbm, ⟨26, _⟩ => ⟨S2048x1, .i32⟩
  | .hbm, ⟨27, _⟩ => ⟨S2048x8, .i32⟩
  | .hbm, ⟨28, _⟩ => ⟨S2048x8, .i32⟩
  | .hbm, ⟨29, _⟩ => ⟨S2048x8, .i1⟩
  | .hbm, ⟨30, _⟩ => ⟨S_, .f32⟩
  | .hbm, ⟨31, _⟩ => ⟨S_, .f32⟩
  | .hbm, ⟨32, _⟩ => ⟨S8x16x2048x8, .i1⟩
  | .hbm, ⟨33, _⟩ => ⟨S8x16x2048x8, .f32⟩
  | .hbm, ⟨34, _⟩ => ⟨S8x16x2048x8, .f32⟩
  | .hbm, ⟨35, _⟩ => ⟨S8x16x2048x3, .f32⟩
  | .hbm, ⟨36, _⟩ => ⟨S8x16x2048x3, .i32⟩
  | .hbm, ⟨37, _⟩ => ⟨S8x16x2048x3x1, .i32⟩
  | .hbm, ⟨38, _⟩ => ⟨S8, .i32⟩
  | .hbm, ⟨39, _⟩ => ⟨S1x1x1x1x8, .i32⟩
  | .hbm, ⟨40, _⟩ => ⟨S8x16x2048x3x8, .i32⟩
  | .hbm, ⟨41, _⟩ => ⟨S8x16x2048x3x8, .i32⟩
  | .hbm, ⟨42, _⟩ => ⟨S8x16x2048x3x8, .i1⟩
  | .hbm, ⟨43, _⟩ => ⟨S_, .i1⟩
  | .hbm, ⟨44, _⟩ => ⟨S8x16x2048x8, .i1⟩
  | .hbm, ⟨45, _⟩ => ⟨S1x1x2048x8, .i1⟩
  | .hbm, ⟨46, _⟩ => ⟨S8x16x2048x8, .i1⟩
  | .hbm, ⟨47, _⟩ => ⟨S8x16x2048x8, .i1⟩
  | .hbm, ⟨48, _⟩ => ⟨S2048, .i32⟩
  | .hbm, ⟨49, _⟩ => ⟨S1x2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S1x2048, .i32⟩
  | .hbm, ⟨55, _⟩ => ⟨S2048x1, .i32⟩
  | .hbm, ⟨56, _⟩ => ⟨S2048x2048, .i32⟩
  | .hbm, ⟨57, _⟩ => ⟨S2048x2048, .i32⟩
  | .hbm, ⟨58, _⟩ => ⟨S2048x2048, .i1⟩
  | .hbm, ⟨59, _⟩ => ⟨S2048x2048, .i1⟩
  | .hbm, ⟨60, _⟩ => ⟨S8x16x2048x8x256, .i1⟩
  | .hbm, ⟨61, _⟩ => ⟨S8x16x2048x2048, .i1⟩
  | .hbm, ⟨62, _⟩ => ⟨S1x1x2048x2048, .i1⟩
  | .hbm, ⟨63, _⟩ => ⟨S8x16x2048x2048, .i1⟩
  | .hbm, ⟨64, _⟩ => ⟨S8x16x2048x2048, .i1⟩
  | .hbm, ⟨65, _⟩ => ⟨S8x16x2048x2048, .f32⟩
  | .hbm, ⟨66, _⟩ => ⟨S_, .f32⟩
  | .hbm, ⟨67, _⟩ => ⟨S_, .f32⟩
  | .hbm, ⟨68, _⟩ => ⟨S8x16x2048x2048, .f32⟩
  | .hbm, ⟨69, _⟩ => ⟨S8x16x2048x2048, .f32⟩
  | .hbm, ⟨70, _⟩ => ⟨S_, .f32⟩
  | .hbm, ⟨71, _⟩ => ⟨S_, .f32⟩
  | .hbm, ⟨72, _⟩ => ⟨S8x16x2048x2048, .f32⟩
  | .hbm, ⟨73, _⟩ => ⟨S8x16x2048x2048, .f32⟩
  | .hbm, ⟨74, _⟩ => ⟨S_, .f32⟩
  | .hbm, ⟨75, _⟩ => ⟨S8x16x2048, .f32⟩
  | .hbm, ⟨76, _⟩ => ⟨S_, .f32⟩
  | .hbm, ⟨77, _⟩ => ⟨S8x16x2048, .f32⟩
  | .hbm, ⟨78, _⟩ => ⟨S8x16x2048, .f32⟩
  | .hbm, ⟨79, _⟩ => ⟨S8x16x2048x1, .f32⟩
  | .hbm, ⟨80, _⟩ => ⟨S8x16x2048x2048, .f32⟩
  | .hbm, ⟨81, _⟩ => ⟨S8x16x2048x2048, .f32⟩
  | .hbm, ⟨82, _⟩ => ⟨S8x16x2048x2048, .f32⟩
  | .hbm, ⟨83, _⟩ => ⟨S_, .f32⟩
  | .hbm, ⟨84, _⟩ => ⟨S8x16x2048, .f32⟩
  | .hbm, ⟨85, _⟩ => ⟨S8x16x2048x1, .f32⟩
  | .hbm, ⟨86, _⟩ => ⟨S8x16x2048x2048, .f32⟩
  | .hbm, ⟨87, _⟩ => ⟨S8x16x2048x2048, .f32⟩
  | .hbm, ⟨88, _⟩ => ⟨S8x16x2048x128, .f32⟩
  | .hbm, ⟨89, _⟩ => ⟨S8x2048x16x128, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048x2048, .f32⟩
  | .hbm, ⟨98, _⟩ => ⟨S8x2048x2048, .f32⟩
  | .hbm, ⟨99, _⟩ => ⟨S8x2048x2048, .f32⟩
  | .hbm, ⟨100, _⟩ => ⟨S8x2048x2048, .f32⟩
  | .hbm, ⟨101, _⟩ => ⟨S8x2048x2048, .bf16⟩
  | .hbm, ⟨102, _⟩ => ⟨S16384x2048, .bf16⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_values : Ref sig .tc := ⟨.hbm, 35, rfl⟩
abbrev main_indices : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== AttnIn.lean ====
abbrev S16384x2048 : Shape := ⟨2, ![16384, 2048]⟩
abbrev S1x2048 : Shape := ⟨2, ![1, 2048]⟩
abbrev S2048x8192 : Shape := ⟨2, ![2048, 8192]⟩
abbrev S2x2x2048x128 : Shape := ⟨4, ![2, 2, 2048, 128]⟩
abbrev S16384x8192 : Shape := ⟨2, ![16384, 8192]⟩
abbrev S1024x2048 : Shape := ⟨2, ![1024, 2048]⟩
abbrev S2048x1024 : Shape := ⟨2, ![2048, 1024]⟩
abbrev S1x2x1024x128 : Shape := ⟨4, ![1, 2, 1024, 128]⟩
abbrev S1024x1024 : Shape := ⟨2, ![1024, 1024]⟩
abbrev S64x2048 : Shape := ⟨2, ![64, 2048]⟩
abbrev S64 : Shape := ⟨1, ![64]⟩
abbrev S64x1 : Shape := ⟨2, ![64, 1]⟩
abbrev S256x1024 : Shape := ⟨2, ![256, 1024]⟩
abbrev S1x1x1024x128 : Shape := ⟨4, ![1, 1, 1024, 128]⟩
abbrev S1024x128 : Shape := ⟨2, ![1024, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S2x2x2048x128, .f32⟩
  | .hbm, ⟨4, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1x2x1024x128, .f32⟩
  | .local _ .vmem, ⟨6, _⟩ => ⟨S1x2x1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | .local _ .vmem, ⟨10, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![v17.toNat, c0_i32_11.toNat, v27.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnInReferenceIdeal.lean ====
abbrev S16384x2048 : Shape := ⟨2, ![16384, 2048]⟩
abbrev S1x2048 : Shape := ⟨2, ![1, 2048]⟩
abbrev S2048x8192 : Shape := ⟨2, ![2048, 8192]⟩
abbrev S2x2x2048x128 : Shape := ⟨4, ![2, 2, 2048, 128]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S1x1x2048x128 : Shape := ⟨4, ![1, 1, 2048, 128]⟩
abbrev S2048x128 : Shape := ⟨2, ![2048, 128]⟩
abbrev S8x2048x16x128 : Shape := ⟨4, ![8, 2048, 16, 128]⟩
abbrev S8x2048x16x64 : Shape := ⟨4, ![8, 2048, 16, 64]⟩
abbrev S1x2048x1x128 : Shape := ⟨4, ![1, 2048, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x8192, .f32⟩
  | .hbm, ⟨3, _⟩ => ⟨S2x2x2048x128, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x8192, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S1x1x2048x128, .f32⟩
  | .hbm, ⟨25, _⟩ => ⟨S2048x128, .f32⟩
  | .hbm, ⟨26, _⟩ => ⟨S1x1x2048x128, .f32⟩
  | .hbm, ⟨27, _⟩ => ⟨S2048x128, .f32⟩
  | .hbm, ⟨28, _⟩ => ⟨S8x2048x16x128, .f32⟩
  | .hbm, ⟨29, _⟩ => ⟨S8x2048x16x64, .f32⟩
  | .hbm, ⟨30, _⟩ => ⟨S8x2048x16x64, .f32⟩
  | .hbm, ⟨31, _⟩ => ⟨S8x2048x16x128, .f32⟩
  | .hbm, ⟨32, _⟩ => ⟨S1x2048x1x128, .f32⟩
  | .hbm, ⟨33, _⟩ => ⟨S8x2048x16x128, .f32⟩
  | .hbm, ⟨34, _⟩ => ⟨S8x2048x16x128, .f32⟩
  | .hbm, ⟨35, _⟩ => ⟨S1x2048x1x128, .f32⟩
  | .hbm, ⟨36, _⟩ => ⟨S8x2048x16x128, .f32⟩
  | .hbm, ⟨37, _⟩ => ⟨S8x2048x16x128, .f32⟩
  | .hbm, ⟨38, _⟩ => ⟨S8x2048x16x128, .f32⟩
  | .hbm, ⟨39, _⟩ => ⟨S16384x2048, .f32⟩
  | .hbm, ⟨40, _⟩ => ⟨S1x1x2048x128, .f32⟩
  | .hbm, ⟨41, _⟩ => ⟨S2048x128, .f32⟩
  | .hbm, ⟨42, _⟩ => ⟨S1x1x2048x128, .f32⟩
  | .hbm, ⟨43, _⟩ => ⟨S2048x128, .f32⟩
  | .hbm, ⟨44, _⟩ => ⟨S8x2048x16x128, .f32⟩
  | .hbm, ⟨45, _⟩ => ⟨S8x2048x16x64, .f32⟩
  | .hbm, ⟨46, _⟩ => ⟨S8x2048x16x64, .f32⟩
  | .hbm, ⟨47, _⟩ => ⟨S8x2048x16x128, .f32⟩
  | .hbm, ⟨48, _⟩ => ⟨S1x2048x1x128, .f32⟩
  | .hbm, ⟨49, _⟩ => ⟨S8x2048x16x128, .f32⟩
  | .hbm, ⟨50, _⟩ => ⟨S8x2048x16x128, .f32⟩
  | .hbm, ⟨51, _⟩ => ⟨S1x2048x1x128, .f32⟩
  | .hbm, ⟨52, _⟩ => ⟨S8x2048x16x128, .f32⟩
  | .hbm, ⟨53, _⟩ => ⟨S8x2048x16x128, .f32⟩
  | .hbm, ⟨54, _⟩ => ⟨S8x2048x16x128, .f32⟩
  | .hbm, ⟨55, _⟩ => ⟨S16384x2048, .f32⟩
  | .hbm, ⟨56, _⟩ => ⟨S16384x8192, .f32⟩
  | .hbm, ⟨57, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩

abbrev nD : Nat := 1
abbrev τ : Topo := Topo.v7x

variable {F : FTy → Type} [FloatOps F]
-- ==== AttnOut.lean ====
abbrev S16384x2048 : Shape := ⟨2, ![16384, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .bf16⟩
  | .hbm, ⟨3, _⟩ => ⟨S1x2048, .f32⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutReferenceIdeal.lean ====
abbrev S16384x2048 : Shape := ⟨2, ![16384, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .bf16⟩
  | .hbm, ⟨3, _⟩ => ⟨S1x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ConvIn.lean ====
abbrev S16384x2048 : Shape := ⟨2, ![16384, 2048]⟩
abbrev S1x2048 : Shape := ⟨2, ![1, 2048]⟩
abbrev S2048x6144 : Shape := ⟨2, ![2048, 6144]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩

abbrev nBuf : Space → Nat
  | .hbm => 6
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .bf16⟩
  | .hbm, ⟨3, _⟩ => ⟨S1x4096, .f32⟩
  | .hbm, ⟨4, _⟩ => ⟨S16384x2048, .bf16⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvInReferenceIdeal.lean ====
abbrev S16384x2048 : Shape := ⟨2, ![16384, 2048]⟩
abbrev S1x2048 : Shape := ⟨2, ![1, 2048]⟩
abbrev S2048x6144 : Shape := ⟨2, ![2048, 6144]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6144, .bf16⟩
  | .hbm, ⟨3, _⟩ => ⟨S1x4096, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2048x6144, .f32⟩
  | .hbm, ⟨20, _⟩ => ⟨S16384x6144, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Selection.lean ====
/-
  The first k positions of a stable descending sort: position `i` is among them exactly when fewer than `k`
  positions beat it, a position beating another when its value is greater, or equal at a lower index.
-/
module

public import Idealize.ShloMosaic.Lib.SortFacts
public import Mathlib.Order.Interval.Finset.Fin

@[expose] public section

namespace Moba

open Idealize.ShloMosaic

variable {α : Type} [LinearOrder α] {n : Nat}

/-- Position `k` beats position `i`: a greater value, or the same value at a lower index. -/
def Beats (x : Fin n → α) (k i : Fin n) : Prop := x i < x k ∨ (x k = x i ∧ k < i)

/-- Whether one entry beats another can be decided. -/
instance (x : Fin n → α) (k i : Fin n) : Decidable (Beats x k i) := by unfold Beats; infer_instance

/-- No entry beats itself. -/
theorem Beats.irrefl (x : Fin n → α) (i : Fin n) : ¬ Beats x i i := by
  rintro (h | ⟨-, h⟩) <;> exact lt_irrefl _ h

/-- Beating is transitive. -/
theorem Beats.trans {x : Fin n → α} {a b c : Fin n} (h₁ : Beats x a b) (h₂ : Beats x b c) : Beats x a c := by
  rcases h₁ with h₁ | ⟨e₁, h₁⟩ <;> rcases h₂ with h₂ | ⟨e₂, h₂⟩
  · exact .inl (h₂.trans h₁)
  · exact .inl (e₂ ▸ h₁)
  · exact .inl (e₁ ▸ h₂)
  · exact .inr ⟨e₁.trans e₂, h₁.trans h₂⟩

/-- Of two different entries one beats the other. -/
theorem Beats.total {x : Fin n → α} {a b : Fin n} (h : a ≠ b) : Beats x a b ∨ Beats x b a := by
  rcases lt_trichotomy (x a) (x b) with hx | hx | hx
  · exact .inr (.inl hx)
  · rcases lt_or_gt_of_ne h with hi | hi
    · exact .inl (.inr ⟨hx, hi⟩)
    · exact .inr (.inr ⟨hx.symm, hi⟩)
  · exact .inl (.inl hx)

/-- Inserting a position lower than all of a sorted list keeps the list sorted. -/
theorem pairwise_insertBefore (x : Fin n → α) (before : Fin n → Fin n → Bool)
    (hb : ∀ k i, before k i = true ↔ x i < x k) (a : Fin n) (l : List (Fin n))
    (ha : ∀ b ∈ l, a < b) (hl : l.Pairwise (Beats x)) : (insertBefore before a l).Pairwise (Beats x) := by
  induction l with
  | nil => exact List.pairwise_singleton _ _
  | cons b l ih =>
    rw [List.pairwise_cons] at hl
    unfold insertBefore
    split
    · rename_i hba
      refine List.pairwise_cons.2 ⟨fun c hc => ?_, ih (fun c hc => ha c (List.mem_cons_of_mem _ hc)) hl.2⟩
      rcases List.mem_cons.1 ((perm_insertBefore before a l).mem_iff.1 hc) with rfl | hc
      · exact .inl ((hb _ _).1 hba)
      · exact hl.1 c hc
    · rename_i hba
      have hab : Beats x a b := by
        have h := ha b List.mem_cons_self
        rcases lt_or_eq_of_le (not_lt.1 (fun h' => hba ((hb _ _).2 h'))) with h' | h'
        · exact .inl h'
        · exact .inr ⟨h'.symm, h⟩
      refine List.pairwise_cons.2 ⟨fun c hc => ?_, List.pairwise_cons.2 hl⟩
      rcases List.mem_cons.1 hc with rfl | hc
      · exact hab
      · exact hab.trans (hl.1 c hc)

/-- The stable sort orders the entries by beating. -/
theorem pairwise_stableSort (x : Fin n → α) (before : Fin n → Fin n → Bool)
    (hb : ∀ k i, before k i = true ↔ x i < x k) (l : List (Fin n)) (hl : l.Pairwise (· < ·)) :
    (stableSort before l).Pairwise (Beats x) := by
  induction l with
  | nil => exact List.Pairwise.nil
  | cons a l ih =>
    rw [List.pairwise_cons] at hl
    exact pairwise_insertBefore x before hb a _
      (fun b hb' => hl.1 b ((perm_stableSort before l).mem_iff.1 hb')) (ih hl.2)

/-- An earlier sorted position beats a later one. -/
theorem beats_sortedFrom (x : Fin n → α) (before : Fin n → Fin n → Bool)
    (hb : ∀ k i, before k i = true ↔ x i < x k) {s t : Fin n} (h : s < t) :
    Beats x (sortedFrom before s) (sortedFrom before t) := by
  have hp : (sortPositions n before).Pairwise (Beats x) :=
    pairwise_stableSort x before hb _ (List.pairwise_lt_finRange n)
  exact List.pairwise_iff_get.1 hp _ _ h

/-- As many positions beat the one sorted to `t` as lie before `t`. -/
theorem card_beats_sortedFrom (x : Fin n → α) (before : Fin n → Fin n → Bool)
    (hb : ∀ k i, before k i = true ↔ x i < x k) (t : Fin n) :
    (Finset.univ.filter fun k => Beats x k (sortedFrom before t)).card = t.val := by
  have : (Finset.univ.filter fun k => Beats x k (sortedFrom before t))
      = (Finset.Iio t).image (sortedFrom before) := by
    ext k
    simp only [Finset.mem_filter, Finset.mem_univ, true_and, Finset.mem_image, Finset.mem_Iio]
    constructor
    · intro hk
      obtain ⟨s, rfl⟩ := sortedFrom_surjective before k
      refine ⟨s, ?_, rfl⟩
      by_contra hs
      rcases lt_or_eq_of_le (not_lt.1 hs) with h | h
      · exact Beats.irrefl x _ ((beats_sortedFrom x before hb h).trans hk)
      · subst h; exact Beats.irrefl x _ hk
    · rintro ⟨s, hs, rfl⟩
      exact beats_sortedFrom x before hb hs
  rw [this, Finset.card_image_of_injective _ (sortedFrom_injective before), Fin.card_Iio]

/-- Position `i` is one of the first `k` sorted ones exactly when fewer than `k` positions beat it. -/
theorem exists_sortedFrom_iff (x : Fin n → α) (before : Fin n → Fin n → Bool)
    (hb : ∀ k i, before k i = true ↔ x i < x k) (k : Nat) (i : Fin n) :
    (∃ t : Fin n, t.val < k ∧ sortedFrom before t = i) ↔ (Finset.univ.filter fun m => Beats x m i).card < k := by
  constructor
  · rintro ⟨t, ht, rfl⟩
    rwa [card_beats_sortedFrom x before hb]
  · intro h
    obtain ⟨t, rfl⟩ := sortedFrom_surjective before i
    exact ⟨t, by rwa [card_beats_sortedFrom x before hb] at h, rfl⟩

end Moba
-- ==== Proof.Weights.lean ====
/-
  A masked softmax as a ratio of powers of two: whatever real number is subtracted from the scores before they
  are exponentiated, and whether the base is two or e (with the scores scaled by log 2), the weighted sum is
  `attn`. The values summed may be infinite: they are only multiplied by nonnegative real weights.
-/
module

public import Idealize.ShloMosaic.PureOps.Ideal
public import Mathlib.Analysis.SpecialFunctions.Pow.Real
public import Mathlib.Data.EReal.Operations
public import Mathlib.Data.EReal.Inv

@[expose] public section

namespace Moba

open Idealize.ShloMosaic

variable {ι : Type} [Fintype ι]

/-- A nonnegative real factor distributes over a sum of extended reals. -/
theorem sum_mul_coe (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of real numbers, in the extended reals. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The unnormalised weight: a power of two where attended, zero elsewhere. -/
noncomputable def wt (att : ι → Prop) [DecidablePred att] (s : ι → ℝ) (i : ι) : ℝ := if att i then (2 : ℝ) ^ s i else 0

/-- The masked softmax in base two, applied to `v`. -/
noncomputable def attn (att : ι → Prop) [DecidablePred att] (s : ι → ℝ) (v : ι → EReal) : EReal :=
  ∑ i, v i * ((wt att s i / ∑ i', wt att s i' : ℝ) : EReal)

section
variable (att : ι → Prop) [DecidablePred att] (s : ι → ℝ) (v : ι → EReal)

/-- Weights are not negative. -/
theorem wt_nonneg (i : ι) : 0 ≤ wt att s i := by
  unfold wt; split
  · positivity
  · exact le_rfl

/-- The sum of the weights is positive. -/
theorem sum_wt_pos (h : ∃ i, att i) : 0 < ∑ i, wt att s i := by
  obtain ⟨i, hi⟩ := h
  refine Finset.sum_pos' (fun i _ => wt_nonneg att s i) ⟨i, Finset.mem_univ i, ?_⟩
  unfold wt; rw [if_pos hi]; positivity

/-- A shift of the scores scales the weights. -/
theorem wt_shift (m : ℝ) (i : ι) : wt att (fun i => s i - m) i = wt att s i * (2 : ℝ) ^ (-m) := by
  unfold wt; split
  · show (2 : ℝ) ^ (s i - m) = _
    rw [sub_eq_add_neg, Real.rpow_add two_pos]
  · simp

/-- Subtracting a real number from every score leaves the weighted sum as it is. -/
theorem attn_shift (m : ℝ) : attn att (fun i => s i - m) v = attn att s v := by
  unfold attn
  refine Finset.sum_congr rfl fun i _ => ?_
  congr 2
  simp only [wt_shift]
  rw [← Finset.sum_mul, mul_div_mul_right]
  exact (Real.rpow_pos_of_pos two_pos _).ne'

/-- Summing the unnormalised products and scaling by the reciprocal of the summed weights. -/
theorem attn_eq_recip (h : ∃ i, att i) :
    (∑ i, v i * (wt att s i : EReal)) * Ideal.div 1 (∑ i, 1 * (wt att s i : EReal)) = attn att s v := by
  have hp := sum_wt_pos att s h
  simp only [one_mul]
  rw [coe_sum]
  have hd : Ideal.div 1 ((∑ i, wt att s i : ℝ) : EReal) = (((∑ i, wt att s i)⁻¹ : ℝ) : EReal) := by
    unfold Ideal.div
    rw [if_neg (by exact_mod_cast hp.ne'), one_mul, EReal.coe_inv]
  rw [hd, sum_mul_coe _ _ (inv_nonneg.2 hp.le)]
  unfold attn
  refine Finset.sum_congr rfl fun i _ => ?_
  rw [mul_assoc, ← EReal.coe_mul, div_eq_mul_inv]

/-- Dividing every exponential (base e, scores scaled by log 2) by their sum, then summing the products. -/
theorem attn_eq_softmax (h : ∃ i, att i) (m : ℝ) (p : ι → EReal)
    (hp : ∀ i, p i = Ideal.exp ((if att i then ((s i : EReal) * ((Real.log 2 : ℝ) : EReal)) else ⊥) - (m : EReal))) :
    ∑ i, Ideal.div (p i) (∑ i', p i') * v i = attn att s v := by
  have hw : ∀ i, p i = ((wt att (fun i => s i - m / Real.log 2) i : ℝ) : EReal) := by
    intro i
    rw [hp i]; unfold wt
    split
    · rw [← EReal.coe_mul, ← EReal.coe_sub, Ideal.exp_coe, Real.rpow_def_of_pos two_pos]
      congr 2
      have : Real.log 2 ≠ 0 := (Real.log_pos one_lt_two).ne'
      field_simp
    · rw [EReal.bot_sub, Ideal.exp_bot, EReal.coe_zero]
  simp only [hw]
  rw [coe_sum, ← attn_shift att s v (m / Real.log 2)]
  have hpos := sum_wt_pos att (fun i => s i - m / Real.log 2) h
  unfold attn
  refine Finset.sum_congr rfl fun i _ => ?_
  unfold Ideal.div
  rw [if_neg (by exact_mod_cast hpos.ne'), ← EReal.coe_inv, ← EReal.coe_mul, mul_comm]
  rfl

/-- The weights as the exponentials a kernel computes: the shift is `m` where attended and `⊤` elsewhere. -/
theorem exp2_sub (m : ℝ) (i : ι) (x t : EReal)
    (hx : att i → x = s i ∧ t = m) (hn : ¬ att i → (x = ⊥ ∨ t = ⊤)) :
    Ideal.exp2 (x - t) = ((wt att (fun i => s i - m) i : ℝ) : EReal) := by
  unfold wt
  by_cases h : att i
  · obtain ⟨rfl, rfl⟩ := hx h
    rw [if_pos h, ← EReal.coe_sub, Ideal.exp2_coe]; rfl
  · rw [if_neg h, EReal.coe_zero]
    rcases hn h with rfl | rfl
    · rw [EReal.bot_sub, Ideal.exp2_bot]
    · rw [EReal.sub_top, Ideal.exp2_bot]
end

/-- A sum over the first `K` of `N` positions is the sum over all where the rest are zero. -/
theorem sum_castLE {K N : Nat} (h : K ≤ N) (f : Fin N → EReal) (hf : ∀ i, K ≤ i.val → f i = 0) :
    ∑ i : Fin K, f (Fin.castLE h i) = ∑ i, f i := by
  classical
  have e := Finset.sum_map Finset.univ (Fin.castLEEmb h) f
  simp only [Fin.castLEEmb_apply] at e
  rw [← e]
  refine Finset.sum_subset (Finset.subset_univ _) fun i _ hi => hf i ?_
  by_contra hlt
  exact hi (Finset.mem_map.2 ⟨⟨i.val, not_le.1 hlt⟩, Finset.mem_univ _, rfl⟩)

end Moba
-- ==== Proof.Spec.lean ====
/-
  The attention of one head as a function of its rows of queries, keys and values, and the contents of a buffer
  that is written 256 rows at a time.
-/
module

public import proofs.«01_k».proof.Proof.Selection
public import proofs.«01_k».proof.Proof.Weights
public import proofs.«01_k».proof.KernelIdeal
public import Idealize.ShloMosaic.Lib.Tactic.RunNames
public import Idealize.ShloMosaic.Lib.Pipeline.ReadBack
public import Idealize.ShloMosaic.Lib.Pipeline.ValueKit
public import Idealize.ShloMosaic.Lib.Pointwise
public import Idealize.ShloMosaic.Lib.MatmulPlain
@[expose] public section

set_option maxRecDepth 16384
noncomputable section
namespace Moba
open Idealize.ShloMosaic Idealize.ShloMosaic.TcCoe Idealize.ShloMosaic.Tactic
open Idealize.SL.Sem
open Cert.KernelIdeal

/-! The attention of one head, from rows of queries, keys and values. Rows are natural numbers: position in the
sequence. `o` is the first position of the query's block. -/

/-- One head of a block of projected rows: row `r`, the head's columns starting at `p`. Zero outside. -/
def head (x : Vec Ideal S2048x512 .bf16) (p : ℕ) (r : ℕ) (d : Fin 128) : EReal :=
  if h : r < 2048 ∧ p + d.val < 512 then x (ix2 ⟨r, h.1⟩ ⟨p + d.val, h.2⟩) else 0

section
variable (o : ℕ) (Q K : ℕ → Fin 128 → EReal)

/-- The product of a key row with a query row. -/
def score (row qp : ℕ) : EReal := ∑ d, K row d * Q qp d

/-- The sum of the scores of a block of keys, for one query. -/
def gate (qp : ℕ) (n : Fin 8) : EReal := ∑ r : Fin 256, score Q K (n.val * 256 + r.val) qp

/-- Block `n` is among the three best of the blocks before the query's own. -/
def Sel (qp : ℕ) (n : Fin 8) : Prop :=
  n.val * 256 < o ∧ (Finset.univ.filter fun m : Fin 8 => m.val * 256 < o ∧ Beats (gate Q K qp) m n).card < 3

/-- Selection can be decided. -/
instance (qp : ℕ) : DecidablePred (Sel o Q K qp) := fun _ => Classical.propDecidable _

/-- The key rows a query attends to: its own block up to itself, and the selected blocks. -/
def Att (qp : ℕ) (row : Fin 2048) : Prop :=
  (o ≤ row.val ∧ row.val ≤ qp) ∨ (row.val < o ∧ Sel o Q K qp ⟨row.val / 256, by omega⟩)

/-- Attending can be decided. -/
instance (qp : ℕ) : DecidablePred (Att o Q K qp) := fun _ => Classical.propDecidable _

/-- The scores the kernel keeps for query `o + c`: minus infinity after the query. -/
def kept (row : ℕ) (c : Fin 256) : EReal :=
  if row < o then score Q K row (o + c.val) else if row - o ≤ c.val then score Q K row (o + c.val) else ⊥

end

/-- One element of the attention: the weighted mean of the values, gated. -/
def mix (o : ℕ) (Q K V : ℕ → Fin 128 → EReal) (qp : ℕ) (d : Fin 128) (z : EReal) : EReal :=
  attn (Att o Q K qp) (fun t => (score Q K t.val qp).toReal) (fun t => V t.val d) * (z * Ideal.logistic z)

/-! ## Contents of a buffer written block of rows by block of rows -/

/-- The first `n` rows of what the writes leave are those of `G`. -/
def UpTo {e : EltTy} (G : ℕ → Fin 256 → Elt Ideal e) (L : List (View.Piece (Elt Ideal) S2048x256 e)) (n : ℕ) : Prop :=
  ∀ (r : Fin 2048) (c : Fin 256), r.val < n → View.canon L (ix2 r c) = G r.val c

/-- Nothing is claimed of no rows. -/
theorem upTo_zero {e : EltTy} (G : ℕ → Fin 256 → Elt Ideal e) (L : List (View.Piece (Elt Ideal) S2048x256 e)) :
    UpTo G L 0 := fun _ _ h => absurd h (Nat.not_lt_zero _)

/-- The place of an index of a rectangle in its array. -/
theorem unit_emb {m n a b o p : ℕ} (inb) (r : Fin a) (c : Fin b) (h0 : o + r.val < m) (h1 : p + c.val < n) :
    (Rect.unit (s := ⟨2, ![m, n]⟩) ![o, p] (⟨2, ![a, b]⟩ : Shape).size inb).emb (ix2 r c) = ix2 ⟨o + r.val, h0⟩ ⟨p + c.val, h1⟩ := by
  funext q
  refine Fin.ext ?_
  match q with
  | ⟨0, _⟩ => show o + 1 * r.val = o + r.val; omega
  | ⟨1, _⟩ => show p + 1 * c.val = p + c.val; omega

/-- A write of the next 256 rows extends the agreement by as many. -/
theorem upTo_step {e : EltTy} {G : ℕ → Fin 256 → Elt Ideal e} {n : ℕ} {inb} {w : S256x256.Idx → Elt Ideal e}
    {L : List (View.Piece (Elt Ideal) S2048x256 e)} (hw : ∀ r c : Fin 256, w (ix2 r c) = G (n + r.val) c) (hL : UpTo G L n) :
    UpTo G (⟨Rect.unit (s := S2048x256) ![n, 0] S256x256.size inb, w⟩ :: L) (n + 256) := by
  intro r c hr
  have hn : n + 256 ≤ 2048 := inb 0
  by_cases h : r.val < n
  · rw [View.canon_cons_of_not_mem]
    · exact hL r c h
    · rw [Rect.mem_set_unit]
      intro hh
      have := (hh 0).1
      change n ≤ r.val at this
      omega
  · have e1 := unit_emb (m := 2048) (n := 256) (a := 256) (b := 256) (o := n) (p := 0) inb ⟨r.val - n, by omega⟩ c (by show n + (r.val - n) < 2048; omega) (by omega)
    have e2 : (ix2 ⟨n + (⟨r.val - n, by omega⟩ : Fin 256).val, by show n + (r.val - n) < 2048; omega⟩ ⟨0 + c.val, by omega⟩ : S2048x256.Idx) = ix2 r c := by
      congr 1
      · exact Fin.ext (by show n + (r.val - n) = r.val; omega)
      · exact Fin.ext (by show 0 + c.val = c.val; omega)
    rw [← e2, ← e1]
    refine (View.canon_cons_emb _ _ _ _).trans ((hw _ _).trans ?_)
    congr 1
    show n + (r.val - n) = r.val; omega

/-- A load of the rows from `n` on. -/
theorem readCov_upTo {e : EltTy} {sp} {G : ℕ → Fin 256 → Elt Ideal e} {L : List (View.Piece (Elt Ideal) S2048x256 e)} {m : ℕ} (h : UpTo G L m)
    (v : View sig .tc sp S2048x256 e) {n a : ℕ} (inb) (ha : n + a ≤ m) (r : Fin a) (c : Fin 256) :
    v.readCov L (Rect.unit (s := S2048x256) ![n, 0] (⟨2, ![a, 256]⟩ : Shape).size inb).toLoadRect (ix2 r c) = G (n + r.val) c := by
  have hn : n + a ≤ 2048 := inb 0
  rw [View.readCov_eq_canon']
  have e1 := unit_emb (m := 2048) (n := 256) (a := a) (b := 256) (o := n) (p := 0) inb r c (by omega) (by omega)
  refine (congrArg (View.canon L) e1).trans ?_
  refine (h ⟨n + r.val, by omega⟩ ⟨0 + c.val, by omega⟩ (by show n + r.val < m; omega)).trans ?_
  congr 1
  exact Fin.ext (by show 0 + c.val = c.val; omega)

/-- A load of part of one head of a block held in a buffer. -/
theorem readAt_head {sp} {mr : Memref sig .tc sp S2048x512 .bf16} (hm : mr.IsWhole) (x : Vec Ideal S2048x512 .bf16) {o p a : ℕ} (inb)
    (r : Fin a) (d : Fin 128) :
    View.readAt (Elt Ideal) mr.view (Rect.unit (s := S2048x512) ![o, p] (⟨2, ![a, 128]⟩ : Shape).size inb).toLoadRect (hm.unread x) (ix2 r d)
      = head x p (o + r.val) d := by
  have h0 : o + a ≤ 2048 := inb 0
  have h1 : p + 128 ≤ 512 := inb 1
  rw [View.readAt_apply, hm.read_unread]
  unfold head
  rw [dif_pos ⟨by omega, by omega⟩]
  exact congrArg x (unit_emb (m := 2048) (n := 512) (a := a) (b := 128) (o := o) (p := p) inb r d (by omega) (by omega))

end Moba
end
-- ==== Proof.Ops.lean ====
/-
  What the operations of one unit of the kernel (one head, one block of 256 queries) compute, each stated for any
  operands that satisfy what the operation before it establishes.
-/
module

public import proofs.«01_k».proof.Proof.Spec
@[expose] public section

set_option maxRecDepth 16384
noncomputable section
namespace Moba
open Idealize.ShloMosaic Idealize.ShloMosaic.TcCoe Idealize.ShloMosaic.Tactic
open Idealize.SL.Sem
open Cert.KernelIdeal

variable {o : ℕ} {Q K V : ℕ → Fin 128 → EReal}

/-- The named mask is minus infinity. -/
theorem mask_eq : (Named.named κ "mask" 0xF149F2CA#32 : Ideal .f32) = ⊥ :=
  IdealRules.named_const.ideal_named_scalar _ _ _ _ rfl

/-! ### Scores -/

/-- A slice of rows, at an index. -/
theorem slice_apply {m : ℕ} (X : FVec Ideal ⟨2, ![m, 256]⟩ .f32) {n a : ℕ} (hs) (r : Fin a) (c : Fin 256) (h : n + r.val < m) :
    extractStridedSlice ⟨2, ![a, 256]⟩ ![n, 0] X hs (ix2 r c) = X (ix2 ⟨n + r.val, h⟩ c) :=
  extractStridedSlice_apply _ _ _ _ _ fun q => match q with
    | ⟨0, _⟩ => rfl
    | ⟨1, _⟩ => (Nat.zero_add _).symm

/-- A block of 256 rows of the products of the keys with the block's queries. -/
theorem slice_scores {m : ℕ} {A : FVec Ideal ⟨2, ![m, 128]⟩ .bf16} {B : FVec Ideal S256x128 .bf16} {n : ℕ} {hs}
    (hA : ∀ (r : Fin m) d, A (ix2 r d) = K (0 + r.val) d) (hB : ∀ (c : Fin 256) d, B (ix2 c d) = Q (o + c.val) d) (r c : Fin 256) :
    extractStridedSlice S256x256 ![n, 0] (matmul (DotDims.transposedRhs m 128 256) none A B (constant ⟨2, ![m, 256]⟩ .f32 0#32)) hs (ix2 r c)
      = score Q K (n + r.val) (o + c.val) := by
  have hn : n + 256 ≤ m := hs.2 0
  rw [slice_apply (m := m) _ hs r c (by omega)]
  refine (Ideal.matmul_transposedRhs_apply _ _ _ _ _ _).trans ?_
  unfold score
  refine (congrArg (· + _) (show _ = (0 : EReal) from Ideal.ofBits_zero_f32)).trans ((zero_add _).trans ?_)
  refine Finset.sum_congr rfl fun d _ => ?_
  have h1 := hA ⟨n + r.val, by omega⟩ d
  have h2 := hB c d
  rw [Nat.zero_add] at h1
  exact congrArg₂ (· * ·) h1 h2

/-- The array holds the kept scores of the keys from row `n` on. -/
def IsX (o : ℕ) (Q K : ℕ → Fin 128 → EReal) (n : ℕ) (X : FVec Ideal S256x256 .f32) : Prop :=
  ∀ r c : Fin 256, X (ix2 r c) = kept o Q K (n + r.val) c

/-- The scores of a block of keys before the queries', cut from the product of all, are the kept scores. -/
theorem isX_past {m : ℕ} {A : FVec Ideal ⟨2, ![m, 128]⟩ .bf16} {B : FVec Ideal S256x128 .bf16} {n : ℕ} {hs}
    (hn : n + 256 ≤ o) (hA : ∀ (r : Fin m) d, A (ix2 r d) = K (0 + r.val) d) (hB : ∀ (c : Fin 256) d, B (ix2 c d) = Q (o + c.val) d) :
    IsX o Q K n (extractStridedSlice S256x256 ![n, 0] (matmul (DotDims.transposedRhs m 128 256) none A B (constant ⟨2, ![m, 256]⟩ .f32 0#32)) hs) := by
  intro r c
  rw [slice_scores hA hB]
  unfold kept
  rw [if_pos (by omega)]

/-- A small number read back from its signed word. -/
theorem toInt_ofNat32 {a : ℕ} (ha : a < 2 ^ 31) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

/-- Signed comparison of two small natural numbers. -/
theorem slt_ofNat {a b : ℕ} (ha : a < 2 ^ 31) (hb : b < 2 ^ 31) : (BitVec.ofNat 32 a).slt (BitVec.ofNat 32 b) = decide (a < b) := by
  rw [BitVec.slt_eq_decide, toInt_ofNat32 ha, toInt_ofNat32 hb]
  simp

/-- Signed comparison of the words of small numbers. -/
theorem sle_ofNat {a b : ℕ} (ha : a < 2 ^ 31) (hb : b < 2 ^ 31) : (BitVec.ofNat 32 a).sle (BitVec.ofNat 32 b) = decide (a ≤ b) := by
  rw [BitVec.sle_eq_decide, toInt_ofNat32 ha, toInt_ofNat32 hb]
  simp

/-- The conjunction of two one-bit words. -/
theorem andi_ofBool (a b : Bool) : IntOp.andi (BitVec.ofBool a) (BitVec.ofBool b) = BitVec.ofBool (a && b) := by
  cases a <;> cases b <;> rfl

/-- The disjunction of two one-bit words. -/
theorem ori_ofBool (a b : Bool) : IntOp.ori (BitVec.ofBool a) (BitVec.ofBool b) = BitVec.ofBool (a || b) := by
  cases a <;> cases b <;> rfl

/-- A choice by a one-bit word. -/
theorem select_ofBool {α : Type} (b : Bool) (x y : α) : Scalar.select (BitVec.ofBool b) x y = if b then x else y := by
  cases b <;> rfl

/-- The causal choice: the first array where the key is not after the query, else the second. -/
theorem causal_apply (h0 h1) (X Y : FVec Ideal S256x256 .f32) (r c : Fin 256) :
    select (cmpi .sle (iota .tc S256x256 32 [0] h0) (iota .tc S256x256 32 [1] h1)) X Y (ix2 r c) = if r.val ≤ c.val then X (ix2 r c) else Y (ix2 r c) := by
  pointwise
  rw [show IntOp.cmpi CmpIPredicate.sle (BitVec.ofNat 32 r.val) (BitVec.ofNat 32 c.val) = BitVec.ofBool (decide (r.val ≤ c.val)) from
    congrArg BitVec.ofBool (sle_ofNat (by omega) (by omega)), select_ofBool]
  simp only [decide_eq_true_eq]

/-- The scores of the queries' own block, masked after the query, are the kept scores. -/
theorem isX_own {X : FVec Ideal S256x256 .f32} {h0 h1} (hX : ∀ r c : Fin 256, X (ix2 r c) = score Q K (o + r.val) (o + c.val)) :
    IsX o Q K o (select (cmpi .sle (iota .tc S256x256 32 [0] h0) (iota .tc S256x256 32 [1] h1)) X
      (broadcast S256x256 (Named.named κ "mask" 0xF149F2CA#32 : Ideal .f32))) := by
  intro r c
  rw [causal_apply, hX]
  unfold kept
  rw [if_neg (show ¬ o + r.val < o by omega), Nat.add_sub_cancel_left, show (broadcast S256x256 (Named.named κ "mask" 0xF149F2CA#32 : Ideal .f32)) (ix2 r c) = ⊥ from mask_eq]

/-- A cast to the same shape keeps the scores. -/
theorem isX_cast {n : ℕ} {X : FVec Ideal S256x256 .f32} {h} (hX : IsX o Q K n X) (r c : Fin 256) :
    shapeCast S256x256 X h (ix2 r c) = kept o Q K (n + r.val) c := by
  rw [shapeCast_self]; exact hX r c

/-- The word of minus infinity. -/
theorem ofBits_negInf : Ideal.ofBits .f32 4286578688#32 = ⊥ := by
  simp [Ideal.ofBits, Ideal.ieee]

/-! ### The sum and the largest of a block's scores -/

/-- A vector read as a row. -/
theorem row_apply (x : FVec Ideal S256 .f32) (h) (c : Fin 256) : shapeCast S1x256 x h (ix2 0 c) = x (ix1 c) := by
  pointwise

/-- The sum of the scores of a past block is its gate. -/
theorem gate_row {n : Fin 8} {X : FVec Ideal S256x256 .f32} {hr hf ha h} (hX : IsX o Q K (n.val * 256) X) (hn : n.val * 256 < o) (ho : 256 ∣ o) (c : Fin 256) :
    shapeCast S1x256 (multiReduction .add [0] S256 X 0#32 hr hf ha) h (ix2 0 c) = gate Q K (o + c.val) n := by
  rw [row_apply]
  pointwise
  unfold gate
  refine Finset.sum_congr rfl fun r _ => (hX r c).trans ?_
  unfold kept
  obtain ⟨k, rfl⟩ := ho
  rw [if_pos (by omega)]

/-- Some key of the block is attended to and none has an infinite score, so that the largest is a real number. -/
theorem real_largest {X : FVec Ideal S256x256 .f32} {hr hf ha h} (c : Fin 256) (hb : ∃ r, X (ix2 r c) ≠ ⊥) (ht : ∀ r, X (ix2 r c) ≠ ⊤) :
    ∃ m : ℝ, shapeCast S1x256 (multiReduction .maximumf [0] S256 X 4286578688#32 hr hf ha) h (ix2 0 c) = m := by
  rw [row_apply]
  pointwise
  set f : Fin 256 → EReal := fun x => X (ix2 x c)
  have hle : ∀ r, f r ≤ Finset.fold max (Ideal.ofBits FTy.f32 4286578688#32) f Finset.univ := fun r =>
    (Finset.le_fold_max _).2 (.inr ⟨r, Finset.mem_univ r, le_rfl⟩)
  have hlt : Finset.fold max (Ideal.ofBits FTy.f32 4286578688#32) f Finset.univ < ⊤ :=
    (Finset.fold_max_lt _).2 ⟨by rw [ofBits_negInf]; exact bot_lt_top, fun r _ => lt_top_iff_ne_top.2 (ht r)⟩
  obtain ⟨r, hr⟩ := hb
  exact ⟨_, (EReal.coe_toReal hlt.ne (fun h => hr (le_bot_iff.1 (h ▸ hle r)))).symm⟩

/-- Every element of the row is a real number. -/
def RealRow (M : FVec Ideal S1x256 .f32) : Prop := ∀ c : Fin 256, ∃ m : ℝ, M (ix2 0 c) = m

variable (hfin : ∀ row qp, ∃ r : ℝ, score Q K row qp = r)
include hfin

/-- The largest score of a past block is real. -/
theorem realRow_past {n : ℕ} {X : FVec Ideal S256x256 .f32} {hr hf ha h} (hX : IsX o Q K n X) (hn : n + 256 ≤ o) :
    RealRow (shapeCast S1x256 (multiReduction .maximumf [0] S256 X 4286578688#32 hr hf ha) h) := fun c => by
  have e : ∀ r : Fin 256, ∃ x : ℝ, X (ix2 r c) = x := fun r => by
    rw [hX r c]; unfold kept; rw [if_pos (by omega)]; exact hfin _ _
  refine real_largest c ⟨0, ?_⟩ fun r => ?_
  · obtain ⟨x, hx⟩ := e 0; rw [hx]; exact EReal.coe_ne_bot x
  · obtain ⟨x, hx⟩ := e r; rw [hx]; exact EReal.coe_ne_top x

/-- The largest kept score of the own block is real. -/
theorem realRow_own {X : FVec Ideal S256x256 .f32} {hr hf ha h} (hX : IsX o Q K o X) :
    RealRow (shapeCast S1x256 (multiReduction .maximumf [0] S256 X 4286578688#32 hr hf ha) h) := fun c => by
  refine real_largest c ⟨0, ?_⟩ fun r => ?_
  · obtain ⟨x, hx⟩ := hfin (o + 0) (o + c.val)
    rw [hX 0 c]; unfold kept
    rw [if_neg (by omega), if_pos (by show o + 0 - o ≤ c.val; omega)]
    exact fun h => EReal.coe_ne_bot x (hx.symm.trans h)
  · obtain ⟨x, hx⟩ := hfin (o + r.val) (o + c.val)
    rw [hX r c]; unfold kept
    rw [if_neg (by omega), hx]
    split
    · exact EReal.coe_ne_top x
    · exact bot_ne_top
omit hfin

/-! ### The selected blocks -/

/-- The rows before the query's block hold the sums of the scores. -/
def IsGate (o : ℕ) (Q K : ℕ → Fin 128 → EReal) (g : FVec Ideal S8x256 .f32) : Prop :=
  ∀ n : Fin 8, n.val * 256 < o → ∀ c : Fin 256, g (ix2 n c) = gate Q K (o + c.val) n

/-- The count of the first `m` blocks that beat block `n`. -/
def Counts (g : FVec Ideal S8x256 .f32) (m : ℕ) (cnt : IVec S8x256 32) : Prop :=
  ∀ (n : Fin 8) (c : Fin 256), cnt (ix2 n c)
    = BitVec.ofNat 32 (Finset.univ.filter fun k : Fin 8 => k.val < m ∧ Beats (fun i => (g (ix2 i c) : EReal)) k n).card

/-- No block is counted at the start. -/
theorem counts_zero {g : FVec Ideal S8x256 .f32} : Counts g 0 (broadcast S8x256 0#32) := by
  intro n c
  rw [Finset.filter_false_of_mem fun k _ h => absurd h.1 (Nat.not_lt_zero _)]
  rfl

/-- One more block compared: the count of the blocks that beat each block. -/
theorem counts_succ {g : FVec Ideal S8x256 .f32} {m : ℕ} {cnt : IVec S8x256 32} {mb : BitVec 32} {hs hb hi hw}
    (hc : Counts g m cnt) (hmb : mb = BitVec.ofNat 32 m) :
    Counts g (m + 1) (addi cnt (extui 32 (ori (cmpf .ogt (broadcastTo S8x256 (extractStridedSlice S1x256 ![m, 0] g hs) hb) g)
      (andi (cmpf .oeq (broadcastTo S8x256 (extractStridedSlice S1x256 ![m, 0] g hs) hb) g)
        (cmpi .sgt (iota .tc S8x256 32 [0] hi) (broadcast S8x256 mb)))) hw)) := by
  have hm : m + 1 ≤ 8 := hs.2 0
  intro n c
  have e : ∀ h h', broadcastTo S8x256 (extractStridedSlice S1x256 ![m, 0] g h) h' (ix2 n c) = g (ix2 ⟨m, hm⟩ c) := by
    intro h h'
    pointwise
  have hstep : (Finset.univ.filter fun k : Fin 8 => k.val < m + 1 ∧ Beats (fun i => (g (ix2 i c) : EReal)) k n).card
      = (Finset.univ.filter fun k : Fin 8 => k.val < m ∧ Beats (fun i => (g (ix2 i c) : EReal)) k n).card
        + if Beats (fun i => (g (ix2 i c) : EReal)) ⟨m, hm⟩ n then 1 else 0 := by
    split
    · rename_i hbt
      rw [← Finset.card_insert_of_notMem (a := (⟨m, hm⟩ : Fin 8)) (by simp)]
      congr 1
      ext k
      simp only [Finset.mem_filter, Finset.mem_univ, true_and, Finset.mem_insert]
      constructor
      · rintro ⟨h1, h2⟩
        by_cases hk : k.val < m
        · exact .inr ⟨hk, h2⟩
        · exact .inl (Fin.ext (by show k.val = m; omega))
      · rintro (rfl | ⟨h1, h2⟩)
        · exact ⟨Nat.lt_succ_self m, hbt⟩
        · exact ⟨by omega, h2⟩
    · rename_i hbt
      rw [Nat.add_zero]
      refine Eq.trans ?_ (Nat.add_zero _).symm
      refine congrArg Finset.card (Finset.ext fun k => ?_)
      simp only [Finset.mem_filter, Finset.mem_univ, true_and]
      constructor
      · rintro ⟨h1, h2⟩
        refine ⟨?_, h2⟩
        by_contra hk
        exact hbt ((Fin.ext (by show k.val = m; omega) : k = ⟨m, hm⟩) ▸ h2)
      · rintro ⟨h1, h2⟩
        exact ⟨by omega, h2⟩
  have hadd : ∀ a b : ℕ, BitVec.ofNat 32 (a + b) = BitVec.ofNat 32 a + BitVec.ofNat 32 b := fun a b => by
    apply BitVec.eq_of_toNat_eq; simp
  rw [hstep, hadd, ← hc n c]
  subst hmb
  refine congrArg (cnt (ix2 n c) + ·) ?_
  have hI : iota .tc S8x256 32 [0] hi (ix2 n c) = BitVec.ofNat 32 n.val := by pointwise
  generalize iota .tc S8x256 32 [0] hi = I at hI ⊢
  show BitVec.setWidth 32 (IntOp.ori (Ideal.cmp .ogt (broadcastTo S8x256 (extractStridedSlice S1x256 ![m, 0] g hs) hb (ix2 n c)) (g (ix2 n c)))
    (IntOp.andi (Ideal.cmp .oeq (broadcastTo S8x256 (extractStridedSlice S1x256 ![m, 0] g hs) hb (ix2 n c)) (g (ix2 n c)))
      (BitVec.ofBool ((BitVec.ofNat 32 m).slt (I (ix2 n c)))))) = _
  rw [e, hI, slt_ofNat (by omega) (by omega)]
  unfold Ideal.cmp
  rw [andi_ofBool, ori_ofBool, ← Bool.decide_and, ← Bool.decide_or]
  by_cases hbt : Beats (fun i => (g (ix2 i c) : EReal)) ⟨m, hm⟩ n
  · rw [if_pos hbt, decide_eq_true (show (g (ix2 n c) : EReal) < g (ix2 ⟨m, hm⟩ c) ∨ (g (ix2 ⟨m, hm⟩ c) : EReal) = g (ix2 n c) ∧ m < n.val from hbt)]
    rfl
  · rw [if_neg hbt, decide_eq_false (show ¬ ((g (ix2 n c) : EReal) < g (ix2 ⟨m, hm⟩ c) ∨ (g (ix2 ⟨m, hm⟩ c) : EReal) = g (ix2 n c) ∧ m < n.val) from hbt)]
    rfl

/-- Zero for the selected blocks, minus infinity for the other blocks before the query's. -/
def IsBias (o : ℕ) (Q K : ℕ → Fin 128 → EReal) (b : FVec Ideal S8x256 .f32) : Prop :=
  ∀ n : Fin 8, n.val * 256 < o → ∀ c : Fin 256, b (ix2 n c) = if Sel o Q K (o + c.val) n then 0 else ⊥

/-- The bias from the counts: zero for the selected blocks, the mask for the others. -/
theorem isBias {g : FVec Ideal S8x256 .f32} {j : ℕ} {cnt : IVec S8x256 32} {jb : BitVec 32} {hi}
    (hg : IsGate o Q K g) (hc : Counts g j cnt) (hj : j * 256 = o) (ho : o < 2048) (hjb : jb = BitVec.ofNat 32 j) :
    IsBias o Q K (select (andi (cmpi .slt cnt (broadcast S8x256 3#32)) (cmpi .slt (iota .tc S8x256 32 [0] hi) (broadcast S8x256 jb)))
      (broadcast S8x256 (FloatOps.ofBits .f32 0#32 : Ideal .f32)) (broadcast S8x256 (Named.named κ "mask" 0xF149F2CA#32 : Ideal .f32))) := by
  intro n hn c
  pointwise
  have hcard : (Finset.univ.filter fun k : Fin 8 => k.val < j ∧ Beats (fun i => (g (ix2 i c) : EReal)) k n)
      = Finset.univ.filter fun k : Fin 8 => k.val * 256 < o ∧ Beats (gate Q K (o + c.val)) k n := by
    refine Finset.filter_congr fun k _ => ?_
    constructor
    · rintro ⟨h1, h2⟩
      have hk : k.val * 256 < o := by omega
      unfold Beats at h2 ⊢
      beta_reduce at h2
      rw [hg k hk c, hg n hn c] at h2
      exact ⟨hk, h2⟩
    · rintro ⟨hk, h2⟩
      unfold Beats at h2 ⊢
      beta_reduce
      rw [hg k hk c, hg n hn c]
      exact ⟨by omega, h2⟩
  rw [hc n c, hjb]
  have hle : (Finset.univ.filter fun k : Fin 8 => k.val < j ∧ Beats (fun i => (g (ix2 i c) : EReal)) k n).card ≤ 8 := (Finset.card_le_univ _).trans_eq (Fintype.card_fin 8)
  rw [show IntOp.cmpi CmpIPredicate.slt (BitVec.ofNat 32 (Finset.univ.filter fun k : Fin 8 => k.val < j ∧ Beats (fun i => (g (ix2 i c) : EReal)) k n).card) 3#32 = BitVec.ofBool (decide ((Finset.univ.filter fun k : Fin 8 => k.val < j ∧ Beats (fun i => (g (ix2 i c) : EReal)) k n).card < 3)) from
      congrArg BitVec.ofBool (slt_ofNat (by omega) (by omega)),
    show IntOp.cmpi CmpIPredicate.slt (BitVec.ofNat 32 n.val) (BitVec.ofNat 32 j) = BitVec.ofBool (decide (n.val < j)) from
      congrArg BitVec.ofBool (slt_ofNat (by omega) (by omega)), andi_ofBool, select_ofBool, mask_eq, hcard, ← Bool.decide_and]
  simp only [decide_eq_true_eq]
  refine if_congr (Q := Sel o Q K (o + c.val) n) ⟨fun h => ⟨hn, h.1⟩, fun h => ⟨h.2, by omega⟩⟩ rfl rfl

/-- The running maximum with one more block stays real. -/
theorem realRow_max {n : ℕ} {A m : FVec Ideal S1x256 .f32} {b : FVec Ideal S8x256 .f32} {hs} (hA : RealRow A) (hm : RealRow m)
    (hb : IsBias o Q K b) (hn : n * 256 < o) : RealRow (maximumf A (addf m (extractStridedSlice S1x256 ![n, 0] b hs))) := by
  have hn8 : n + 1 ≤ 8 := hs.2 0
  intro c
  obtain ⟨x, hx⟩ := hA c
  obtain ⟨y, hy⟩ := hm c
  have e : maximumf A (addf m (extractStridedSlice S1x256 ![n, 0] b hs)) (ix2 0 c) = max (A (ix2 0 c) : EReal) (m (ix2 0 c) + b (ix2 ⟨n, hn8⟩ c)) := by
    pointwise
  rw [e, hx, hy, hb ⟨n, hn8⟩ hn c]
  split
  · exact ⟨max x y, by rw [add_zero]; exact (EReal.coe_strictMono.monotone.map_max).symm⟩
  · exact ⟨x, by rw [EReal.add_bot]; exact max_eq_left bot_le⟩

/-! ### The weights -/

/-- The weight of key row `row` for query `o + c`, with the scores shifted by `m c`. -/
def weight (o : ℕ) (Q K : ℕ → Fin 128 → EReal) (m : Fin 256 → ℝ) (row : ℕ) (c : Fin 256) : EReal :=
  if h : row < 2048 then ((wt (Att o Q K (o + c.val)) (fun t => (score Q K t.val (o + c.val)).toReal - m c) ⟨row, h⟩ : ℝ) : EReal) else 0

section
include hfin

/-- The power of two of a kept score less its shift is the weight. -/
theorem weight_eq {m : Fin 256 → ℝ} {row : ℕ} (hr : row < o + 256) (ho : o + 256 ≤ 2048) (c : Fin 256) {t : EReal}
    (ht : Att o Q K (o + c.val) ⟨row, by omega⟩ → t = m c)
    (hn : ¬ Att o Q K (o + c.val) ⟨row, by omega⟩ → kept o Q K row c = ⊥ ∨ t = ⊤) :
    Ideal.exp2 (kept o Q K row c - t) = weight o Q K m row c := by
  unfold weight
  rw [dif_pos (show row < 2048 by omega)]
  refine exp2_sub (Att o Q K (o + c.val)) (fun t => (score Q K t.val (o + c.val)).toReal) (m c) ⟨row, by omega⟩ _ _ (fun ha => ⟨?_, ht ha⟩) hn
  obtain ⟨x, hx⟩ := hfin row (o + c.val)
  show kept o Q K row c = ((score Q K row (o + c.val)).toReal : EReal)
  rw [hx, EReal.toReal_coe, ← hx]
  unfold kept
  rcases ha with ⟨h1, h2⟩ | ⟨h1, _⟩
  · rw [if_neg (show ¬ row < o from by have : o ≤ row := h1; omega), if_pos (by have : row ≤ o + c.val := h2; omega)]
  · rw [if_pos (show row < o from h1)]

/-- The weights of a past block, as the kernel stores them. -/
theorem weight_past {n : ℕ} {M : FVec Ideal S1x256 .f32} {b : FVec Ideal S8x256 .f32} {Y : FVec Ideal S256x256 .f32} {m : Fin 256 → ℝ} {hs hb hw h}
    (hM : ∀ c, M (ix2 0 c) = m c) (hB : IsBias o Q K b) (hn : n * 256 + 256 ≤ o) (ho : o + 256 ≤ 2048) (hY : IsX o Q K (n * 256) Y) (r c : Fin 256) :
    shapeCast S256x256 (truncf .bf16 (exp2 (subf Y (broadcastTo S256x256 (subf M (extractStridedSlice S1x256 ![n, 0] b hs)) hb))) hw) h (ix2 r c)
      = weight o Q K m (n * 256 + r.val) c := by
  have hn8 : n + 1 ≤ 8 := hs.2 0
  rw [shapeCast_self]
  pointwise
  rw [hY r c, hM c, hB ⟨n, hn8⟩ (by show n * 256 < o; omega) c]
  have e : (⟨(n * 256 + r.val) / 256, by omega⟩ : Fin 8) = ⟨n, hn8⟩ := Fin.ext (by show (n * 256 + r.val) / 256 = n; omega)
  have hiff : Sel o Q K (o + c.val) ⟨(n * 256 + r.val) / 256, by omega⟩ ↔ Sel o Q K (o + c.val) ⟨n, hn8⟩ := by rw [e]
  refine weight_eq hfin (by omega) (by omega) c (fun ha => ?_) fun ha => .inr ?_
  · rcases ha with ⟨h1, _⟩ | ⟨_, h2⟩
    · exact absurd (show o ≤ n * 256 + r.val from h1) (by omega)
    · rw [if_pos (hiff.1 h2)]
      exact sub_zero _
  · rw [if_neg (fun h2 => ha (.inr ⟨by show n * 256 + r.val < o; omega, hiff.2 h2⟩))]
    exact EReal.coe_sub_bot _

/-- The weights of the own block, as the kernel stores them. -/
theorem weight_own {M : FVec Ideal S1x256 .f32} {Y : FVec Ideal S256x256 .f32} {m : Fin 256 → ℝ} {hb hw h}
    (hM : ∀ c, M (ix2 0 c) = m c) (ho : o + 256 ≤ 2048) (hY : IsX o Q K o Y) (r c : Fin 256) :
    shapeCast S256x256 (truncf .bf16 (exp2 (subf Y (broadcastTo S256x256 M hb))) hw) h (ix2 r c) = weight o Q K m (o + r.val) c := by
  rw [shapeCast_self]
  pointwise
  rw [hY r c, hM c]
  refine weight_eq hfin (by omega) (by omega) c (fun _ => rfl) fun ha => .inl ?_
  unfold kept
  rw [if_neg (by omega), if_neg (fun h => ha (.inl ⟨by show o ≤ o + r.val; omega, by show o + r.val ≤ o + c.val; omega⟩))]
end

/-! ### The block's output -/

/-- The output of a unit: the product of values and weights, divided by the sum of the weights, transposed and gated. -/
theorem out_apply {m : ℕ} {A : FVec Ideal ⟨2, ![144, m]⟩ .bf16} {P : FVec Ideal ⟨2, ![m, 256]⟩ .bf16} {Z : FVec Ideal S256x128 .bf16}
    {s : Fin 256 → ℝ} {h1 h2 h3 h4 h5 h6 h7} (hm : m = o + 256) (ho : m ≤ 2048)
    (hA : ∀ (r : Fin 144) (k : Fin m), A (ix2 r k) = if hr : r.val < 128 then V k.val ⟨r.val, hr⟩ else 1)
    (hP : ∀ (k : Fin m) (c : Fin 256), P (ix2 k c) = weight o Q K s (0 + k.val) c) (r : Fin 256) (d : Fin 128) :
    (truncf .bf16 (mulf (transpose S256x128 [1, 0] (mulf
        (extractStridedSlice S128x256 ![0, 0] (matmul (DotDims.plain 144 m 256) none A P (constant ⟨2, ![144, 256]⟩ .f32 0#32)) h1)
        (broadcastTo S128x256 (divf (broadcast S1x256 (FloatOps.ofBits .f32 1065353216#32))
          (extractStridedSlice S1x256 ![128, 0] (matmul (DotDims.plain 144 m 256) none A P (constant ⟨2, ![144, 256]⟩ .f32 0#32)) h2)) h3)) h4)
      (mulf (extf .f32 Z h5) (logistic (extf .f32 Z h6)))) h7 : FVec Ideal S256x128 .bf16) (ix2 r d)
      = mix o Q K V (o + r.val) d (Z (ix2 r d)) := by
  have e : ∀ q : Fin 144, matmul (DotDims.plain 144 m 256) none A P (constant (F := Ideal) ⟨2, ![144, 256]⟩ .f32 0#32) (ix2 q r)
      = ∑ k : Fin m, (if hr : q.val < 128 then V k.val ⟨q.val, hr⟩ else 1) * weight o Q K s k.val r := by
    intro q
    refine (Ideal.matmul_plain_apply _ _ _ _ _ _).trans ?_
    refine (congrArg (· + _) (show _ = (0 : EReal) from Ideal.ofBits_zero_f32)).trans ((zero_add _).trans ?_)
    refine Finset.sum_congr rfl fun k _ => ?_
    have h1 := hA q k
    have h2 := hP k r
    rw [Nat.zero_add] at h2
    exact congrArg₂ (· * ·) h1 h2
  generalize matmul (DotDims.plain 144 m 256) none A P (constant (F := Ideal) ⟨2, ![144, 256]⟩ .f32 0#32) = O at e ⊢
  pointwise
  rw [e, e]
  unfold mix
  congr 1
  have hk : ∀ (k : Fin m), weight o Q K s k.val r = ((wt (Att o Q K (o + r.val)) (fun t => (score Q K t.val (o + r.val)).toReal - s r) (Fin.castLE ho k) : ℝ) : EReal) := by
    intro k
    unfold weight
    rw [dif_pos (show k.val < 2048 by omega)]
    rfl
  have hz : ∀ k : Fin 2048, m ≤ k.val → wt (Att o Q K (o + r.val)) (fun t => (score Q K t.val (o + r.val)).toReal - s r) k = 0 := by
    intro k hkm
    unfold wt
    refine if_neg ?_
    rintro (⟨_, h⟩ | ⟨h, _⟩)
    · have : k.val ≤ o + r.val := h
      omega
    · have : k.val < o := h
      omega
  have hs : ∀ f : Fin 2048 → EReal, ∑ k : Fin m, f (Fin.castLE ho k) * weight o Q K s k.val r
      = ∑ k, f k * ((wt (Att o Q K (o + r.val)) (fun t => (score Q K t.val (o + r.val)).toReal - s r) k : ℝ) : EReal) := by
    intro f
    rw [← sum_castLE ho _ (fun k hkm => by rw [hz k hkm, EReal.coe_zero, mul_zero])]
    exact Finset.sum_congr rfl fun k _ => by rw [hk k]
  have h1 : ∀ k : Fin m, (if hr : d.val < 128 then V k.val ⟨d.val, hr⟩ else 1) = (fun t : Fin 2048 => V t.val d) (Fin.castLE ho k) := fun k => dif_pos d.isLt
  have h2 : ∀ k : Fin m, (if hr : (128 : Fin 144).val < 128 then V k.val ⟨(128 : Fin 144).val, hr⟩ else 1) = (fun _ : Fin 2048 => (1 : EReal)) (Fin.castLE ho k) := fun k => dif_neg (by decide)
  rw [Finset.sum_congr rfl fun k _ => congrArg (· * _) (h1 k), Finset.sum_congr rfl fun k _ => congrArg (· * _) (h2 k)]
  refine (congrArg₂ (fun a b => a * Ideal.div 1 b) (hs fun t => V t.val d) (hs fun _ => 1)).trans ?_
  refine (attn_eq_recip (Att o Q K (o + r.val)) (fun t => (score Q K t.val (o + r.val)).toReal - s r) (fun t => V t.val d) ⟨⟨o + r.val, by omega⟩, .inl ⟨?_, ?_⟩⟩).trans (attn_shift _ _ _ _)
  · show o ≤ o + r.val; omega
  · exact le_rfl

end Moba
end
-- ==== Proof.Values.lean ====
/-
  The kernel's copy of the values: each head's values transposed, with rows of ones below them.
-/
module

public import proofs.«01_k».proof.Proof.Ops
public import proofs.«01_k».proof.Proof.Gen.KernelIdeal.Value
public import Idealize.ShloMosaic.Lib.ValueLayout
@[expose] public section

set_option maxRecDepth 16384
noncomputable section
namespace Moba
open Idealize.ShloMosaic Idealize.ShloMosaic.TcCoe Idealize.ShloMosaic.Tactic
open Idealize.SL.Sem
open Cert.KernelIdeal Cert.KernelIdeal.Gen

/-- Head `i 0`: its values transposed in the first 128 rows, ones in the other 16. -/
def valuesT (x : Vec Ideal S2048x512 .bf16) (i : S4x144x2048.Idx) : EReal :=
  if hr : (i 1).val < 128 then head x ((i 0).val * 128) (i 2).val ⟨(i 1).val, hr⟩ else 1

/-- A block of 256 values written transposed is a piece of `valuesT`. -/
theorem values_step {x : Vec Ideal S2048x512 .bf16} {h n p : ℕ} {inb} {v : Vec Ideal S256x128 .bf16}
    {L : List (View.Piece (Elt Ideal) S4x144x2048 .bf16)}
    (hv : ∀ (r : Fin 256) (d : Fin 128), v (ix2 r d) = head x p (n + r.val) d) (hp : p = h * 128)
    (hL : View.PiecesOf (Val := Elt Ideal) (valuesT x) L) :
    View.PiecesOf (Val := Elt Ideal) (valuesT x) (⟨Rect.unit (s := S4x144x2048) ![h, 0, n] S1x128x256.size inb, k0_pay39 (F := Ideal) v⟩ :: L) := by
  refine ⟨fun i => ?_, hL⟩
  subst hp
  have hi0 : (i 0).val = 0 := Nat.lt_one_iff.mp (i 0).isLt
  have hi1 : (i 1).val < 128 := (i 1).isLt
  have e0 : ((Rect.unit (s := S4x144x2048) ![h, 0, n] S1x128x256.size inb).emb i 0).val = h := by
    simp [Rect.unit, Rect.emb, hi0]
  have e1 : ((Rect.unit (s := S4x144x2048) ![h, 0, n] S1x128x256.size inb).emb i 1).val = (i 1).val := by
    simp [Rect.unit, Rect.emb]
  have e2 : ((Rect.unit (s := S4x144x2048) ![h, 0, n] S1x128x256.size inb).emb i 2).val = n + (i 2).val := by
    simp [Rect.unit, Rect.emb]
  have hG : valuesT x ((Rect.unit (s := S4x144x2048) ![h, 0, n] S1x128x256.size inb).emb i) = head x (h * 128) (n + (i 2).val) ⟨(i 1).val, hi1⟩ := by
    unfold valuesT
    simp only [e0, e1, e2, dif_pos hi1]
  rw [hG]
  refine Eq.trans ?_ (hv ⟨(i 2).val, (i 2).isLt⟩ ⟨(i 1).val, hi1⟩)
  show k0_pay39 (F := Ideal) v i = _
  unfold k0_pay39
  idx_vars i
  pointwise

/-- A block of ones below the values is a piece of `valuesT`. -/
theorem ones_step {x : Vec Ideal S2048x512 .bf16} {h : ℕ} {inb}
    {L : List (View.Piece (Elt Ideal) S4x144x2048 .bf16)} (hL : View.PiecesOf (Val := Elt Ideal) (valuesT x) L) :
    View.PiecesOf (Val := Elt Ideal) (valuesT x) (⟨Rect.unit (s := S4x144x2048) ![h, 128, 0] S1x16x2048.size inb, k0_pay40 (F := Ideal)⟩ :: L) := by
  refine ⟨fun i => ?_, hL⟩
  have e1 : ((Rect.unit (s := S4x144x2048) ![h, 128, 0] S1x16x2048.size inb).emb i 1).val = 128 + (i 1).val := by
    simp [Rect.unit, Rect.emb]
  have hG : valuesT x ((Rect.unit (s := S4x144x2048) ![h, 128, 0] S1x16x2048.size inb).emb i) = 1 := by
    unfold valuesT
    rw [dif_neg (by omega)]
  rw [hG]
  show k0_pay40 (F := Ideal) i = _
  unfold k0_pay40
  idx_vars i
  pointwise

variable (c : Dev nD) (arg4 : Memref sig .tc .vmem S2048x512 .bf16) (harg4 : arg4.IsWhole) (x2 : Vec Ideal S2048x512 .bf16)

/-- The stores of the transposed values and of the ones leave the extended values. -/
theorem values_pieces : View.PiecesOf (Val := Elt Ideal) (e := .bf16) (valuesT x2) (kernelRun0_A.sl.HS0_36 c arg4 harg4 x2) := by
  repeat' (first | exact trivial | refine ones_step ?_ | refine values_step (readAt_head harg4 x2 _) rfl ?_)

/-- The leading axis of size one dropped. -/
theorem dropUnit_apply {K : ℕ} (X : (⟨3, ![1, 144, K]⟩ : Shape).Idx → EReal) (hc : (⟨3, ![1, 144, K]⟩ : Shape).ShapeCasts ⟨2, ![144, K]⟩) (r : Fin 144) (k : Fin K) :
    shapeCast ⟨2, ![144, K]⟩ X hc (ix2 r k) = X (ix3 0 r k) := by
  exact congrArg X (ValueIdx.reshapeEquiv_ix2_1ab _ r k)

/-- The values of head `h`, as the kernel reads them back: one column of 144 entries for each row of values. -/
theorem valuesT_load {h K p : ℕ} {sp} {v : View sig .tc sp S4x144x2048 .bf16} {inb} {hc : (⟨3, ![1, 144, K]⟩ : Shape).ShapeCasts ⟨2, ![144, K]⟩} (hp : p = h * 128) (r : Fin 144) (k : Fin K) :
    shapeCast ⟨2, ![144, K]⟩ (v.readCov (kernelRun0_A.sl.HS0_36 c arg4 harg4 x2) (Rect.unit (s := S4x144x2048) ![h, 0, 0] (⟨3, ![1, 144, K]⟩ : Shape).size inb).toLoadRect) hc (ix2 r k)
      = if hr : r.val < 128 then head x2 p k.val ⟨r.val, hr⟩ else 1 := by
  subst hp
  have hcov : ∀ y : S4x144x2048.Idx, ∃ p ∈ kernelRun0_A.sl.HS0_36 c arg4 harg4 x2, y ∈ p.1.set :=
    View.cover_of_tiledBy _ ![1, 16, 256] (by sl_kernel_rfl)
  have hcanon : ∀ y, View.canon (kernelRun0_A.sl.HS0_36 c arg4 harg4 x2) y = valuesT x2 y := fun y =>
    View.canon_apply_of_pieces (valuesT x2) _ (fun p hp => View.PiecesOf.mem (values_pieces c arg4 harg4 x2) p hp) y (hcov y)
  generalize kernelRun0_A.sl.HS0_36 c arg4 harg4 x2 = L at hcanon
  have hz : v.readCov L (Rect.unit (s := S4x144x2048) ![h, 0, 0] (⟨3, ![1, 144, K]⟩ : Shape).size inb).toLoadRect (ix3 0 r k)
      = if hr : r.val < 128 then head x2 (h * 128) k.val ⟨r.val, hr⟩ else 1 := by
    have hK : K ≤ 2048 := by have := inb 2; exact (Nat.zero_add K) ▸ this
    have hh : h < 4 := by have := inb 0; exact this
    have e : (Rect.unit (s := S4x144x2048) ![h, 0, 0] (⟨3, ![1, 144, K]⟩ : Shape).size inb).toLoadRect.idx (ix3 0 r k)
        = (ix3 ⟨h, hh⟩ r ⟨k.val, by omega⟩ : S4x144x2048.Idx) := by
      funext q
      refine Fin.ext ?_
      match q with
      | ⟨0, _⟩ => show h + 1 * 0 = h; omega
      | ⟨1, _⟩ => show 0 + 1 * r.val = r.val; omega
      | ⟨2, _⟩ => show 0 + 1 * k.val = k.val; omega
    rw [View.readCov_eq_canon']
    refine (congrArg (View.canon L) e).trans ((hcanon _).trans ?_)
    rfl
  exact (dropUnit_apply _ hc r k).trans hz

end Moba
end
-- ==== Proof.Unit.lean ====
module

public import proofs.«01_k».proof.Proof.Values
@[expose] public section

set_option maxRecDepth 16384
noncomputable section
namespace Moba
open Idealize.ShloMosaic Idealize.ShloMosaic.TcCoe Idealize.ShloMosaic.Tactic
open Idealize.SL.Sem
open Cert.KernelIdeal Cert.KernelIdeal.Gen

/-- The pieces from the `k`-th on hold the blocks' sums of scores, one row each, up to the query's block. -/
inductive Rows (o : ℕ) (Q K : ℕ → Fin 128 → EReal) : ℕ → List ((s : Shape) × (s.Idx → EReal)) → Prop
  | last {k : ℕ} {p : (s : Shape) × (s.Idx → EReal)} (h : o ≤ k * 256) : Rows o Q K k [p]
  | row {k : ℕ} {a : S1x256.Idx → EReal} {xs : List ((s : Shape) × (s.Idx → EReal))}
      (ha : ∀ hk : k < 8, ∀ c : Fin 256, a (ix2 0 c) = gate Q K (o + c.val) ⟨k, hk⟩) (h : Rows o Q K (k + 1) xs) :
      Rows o Q K k (⟨S1x256, a⟩ :: xs)

/-- The row of a past block in the list of gates, with its place. -/
theorem Rows.at {o : ℕ} {Q K : ℕ → Fin 128 → EReal} {k : ℕ} {xs : List ((s : Shape) × (s.Idx → EReal))} (h : Rows o Q K k xs)
    (n : ℕ) (hn8 : n < 8) (hkn : k ≤ n) (hn : n * 256 < o) :
    ∃ (hl : n - k < xs.length) (a : S1x256.Idx → EReal), xs[n - k] = ⟨S1x256, a⟩
      ∧ (((xs.take (n - k)).map (·.1)).map fun s : Shape => if h : s.rank = S8x256.rank then s.size ((0 : Fin S8x256.rank).cast h.symm) else 0).sum = n - k
      ∧ ∀ c : Fin 256, a (ix2 0 c) = gate Q K (o + c.val) ⟨n, hn8⟩ := by
  induction h with
  | last h => omega
  | @row k a xs ha h ih =>
    rcases Nat.lt_or_ge k n with hlt | hge
    · obtain ⟨hl, b, e1, e2, e3⟩ := ih hlt
      obtain ⟨d, rfl⟩ : ∃ d, n = k + 1 + d := ⟨n - (k + 1), by omega⟩
      have ed : k + 1 + d - k = d + 1 := by omega
      have ed' : k + 1 + d - (k + 1) = d := by omega
      simp only [ed'] at hl e1 e2
      refine ⟨by rw [ed]; simpa using hl, b, ?_, ?_, e3⟩
      · simp only [ed]; exact e1
      · simp only [ed, List.take_succ_cons, List.map_cons, List.sum_cons, e2]
        show 1 + d = d + 1
        omega
    · obtain rfl : k = n := by omega
      refine ⟨by simp, a, by simp, by simp, fun c => ha hn8 c⟩

/-- Rows stacked make the gate. -/
theorem isGate {o : ℕ} {Q K : ℕ → Fin 128 → EReal} {xs : List ((s : Shape) × (s.Idx → EReal))} {h} (hx : Rows o Q K 0 xs) :
    IsGate o Q K (concatenate S8x256 0 xs h) := by
  intro n hn c
  obtain ⟨hl, a, e1, e2, e3⟩ := hx.at n.val n.isLt (Nat.zero_le _) hn
  refine (concatenate_apply_piece (t := S8x256) 0 xs h (ix2 n c) (n.val - 0) hl S1x256 a e1 rfl n.val e2 (ix2 0 c) ?_ rfl).trans (e3 c)
  intro b hb
  match b with
  | ⟨0, _⟩ => exact absurd rfl hb
  | ⟨1, _⟩ => rfl

/-- An entry of a row of real numbers is its real value. -/
theorem RealRow.eq {M : FVec Ideal S1x256 .f32} (h : RealRow M) (c : Fin 256) : (M (ix2 0 c) : EReal) = ((M (ix2 0 c) : EReal).toReal : EReal) := by
  obtain ⟨m, hm⟩ := h c
  rw [hm]; rfl

/-- The layer's result on one block, entry by entry. -/
def blockOut (y0 y1 y2 y3 : Vec Ideal S2048x512 .bf16) (i : S2048x512.Idx) : EReal :=
  mix ((i 0).val / 256 * 256) (head y0 ((i 1).val / 128 * 128)) (head y1 ((i 1).val / 128 * 128)) (head y2 ((i 1).val / 128 * 128))
    (i 0).val ⟨(i 1).val % 128, Nat.mod_lt _ (by decide)⟩ (y3 i)

/-- One more unit stored: the list of stores still holds the output. -/
theorem out_step {y0 y1 y2 y3 : Vec Ideal S2048x512 .bf16} {o p : ℕ} {inb} {w : S256x128.Idx → EReal}
    {L : List (View.Piece (Elt Ideal) S2048x512 .bf16)} (ho : 256 ∣ o) (hp : 128 ∣ p)
    (hw : ∀ (r : Fin 256) (d : Fin 128), w (ix2 r d) = mix o (head y0 p) (head y1 p) (head y2 p) (o + r.val) d (head y3 p (o + r.val) d))
    (hL : View.PiecesOf (Val := Elt Ideal) (blockOut y0 y1 y2 y3) L) :
    View.PiecesOf (Val := Elt Ideal) (blockOut y0 y1 y2 y3) (⟨Rect.unit (s := S2048x512) ![o, p] S256x128.size inb, w⟩ :: L) := by
  refine ⟨fun i => ?_, hL⟩
  have h0 : o + 256 ≤ 2048 := inb 0
  have h1 : p + 128 ≤ 512 := inb 1
  have hi0 : (i 0).val < 256 := (i 0).isLt
  have hi1 : (i 1).val < 128 := (i 1).isLt
  obtain ⟨r, d, rfl⟩ : ∃ (r : Fin 256) (d : Fin 128), i = ix2 r d := ⟨⟨_, hi0⟩, ⟨_, hi1⟩, by
    funext q
    match q with
    | ⟨0, _⟩ => rfl
    | ⟨1, _⟩ => rfl⟩
  refine (hw r d).trans ?_
  have e := unit_emb (m := 2048) (n := 512) (a := 256) (b := 128) (o := o) (p := p) inb r d (by omega) (by omega)
  refine Eq.trans ?_ (congrArg (blockOut y0 y1 y2 y3) e).symm
  show _ = mix ((o + r.val) / 256 * 256) (head y0 ((p + d.val) / 128 * 128)) (head y1 ((p + d.val) / 128 * 128)) (head y2 ((p + d.val) / 128 * 128))
    (o + r.val) ⟨(p + d.val) % 128, _⟩ (y3 _)
  have eo : (o + r.val) / 256 * 256 = o := by omega
  have ep : (p + d.val) / 128 * 128 = p := by omega
  rw [eo, ep]
  congr 1
  · exact Fin.ext (by show d.val = (p + d.val) % 128; omega)
  · unfold head
    rw [dif_pos ⟨by omega, by omega⟩]

/-- A unit's output, from its stored scores and weights. -/
theorem unit_apply {y0 y1 y2 y3 : Vec Ideal S2048x512 .bf16} {o p m : ℕ} {A : FVec Ideal ⟨2, ![144, m]⟩ .bf16} {Z : FVec Ideal S256x128 .bf16}
    {h1 h2 h3 h4 h5 h6 h7} {sp} {v : View sig .tc sp S2048x256 .bf16} {LP : List (View.Piece (Elt Ideal) S2048x256 .bf16)} {inb}
    {LS : List (View.Piece (Elt Ideal) S2048x256 .f32)} {b : FVec Ideal S8x256 .f32} {M : FVec Ideal S1x256 .f32}
    (hpos : 0 < o) (hP : ∀ s : Fin 256 → ℝ, UpTo (kept o (head y0 p) (head y1 p)) LS (o + 256) → IsBias o (head y0 p) (head y1 p) b → (∀ c, M (ix2 0 c) = s c) →
      UpTo (e := .bf16) (weight o (head y0 p) (head y1 p) s) LP (o + 256))
    (hS : UpTo (kept o (head y0 p) (head y1 p)) LS (o + 256))
    (hB : IsBias o (head y0 p) (head y1 p) b)
    (hM : IsBias o (head y0 p) (head y1 p) b → RealRow M)
    (hm : m = o + 256) (ho : m ≤ 2048)
    (hA : ∀ (r : Fin 144) (k : Fin m), A (ix2 r k) = if hr : r.val < 128 then head y2 p k.val ⟨r.val, hr⟩ else 1)
    (hZ : ∀ (r : Fin 256) (d : Fin 128), Z (ix2 r d) = head y3 p (o + r.val) d) (r : Fin 256) (d : Fin 128) :
    (truncf .bf16 (mulf (transpose S256x128 [1, 0] (mulf
        (extractStridedSlice S128x256 ![0, 0] (matmul (φ₂ := .bf16) (DotDims.plain 144 m 256) none A
          (v.readCov LP (Rect.unit (s := S2048x256) ![0, 0] (⟨2, ![m, 256]⟩ : Shape).size inb).toLoadRect) (constant ⟨2, ![144, 256]⟩ .f32 0#32)) h1)
        (broadcastTo S128x256 (divf (broadcast S1x256 (FloatOps.ofBits .f32 1065353216#32))
          (extractStridedSlice S1x256 ![128, 0] (matmul (φ₂ := .bf16) (DotDims.plain 144 m 256) none A
            (v.readCov LP (Rect.unit (s := S2048x256) ![0, 0] (⟨2, ![m, 256]⟩ : Shape).size inb).toLoadRect) (constant ⟨2, ![144, 256]⟩ .f32 0#32)) h2)) h3)) h4)
      (mulf (extf .f32 Z h5) (logistic (extf .f32 Z h6)))) h7 : FVec Ideal S256x128 .bf16) (ix2 r d)
      = mix o (head y0 p) (head y1 p) (head y2 p) (o + r.val) d (head y3 p (o + r.val) d) := by
  refine (out_apply hm ho hA (s := fun c => (M (ix2 0 c) : EReal).toReal) ?_ r d).trans (congrArg _ (hZ r d))
  intro k c
  exact readCov_upTo (hP _ hS hB (hM hB).eq) v inb (by omega) k c

/-- The first block, whose queries see no earlier block. -/
theorem first_apply {y0 y1 y2 y3 : Vec Ideal S2048x512 .bf16} {p : ℕ} {A : FVec Ideal ⟨2, ![144, 256]⟩ .bf16} {Z : FVec Ideal S256x128 .bf16}
    {h1 h2 h3 h4 h5 h6 h7} {sp} {v : View sig .tc sp S2048x256 .bf16} {LP : List (View.Piece (Elt Ideal) S2048x256 .bf16)} {inb}
    {LS : List (View.Piece (Elt Ideal) S2048x256 .f32)} {M : FVec Ideal S1x256 .f32}
    (hP : ∀ s : Fin 256 → ℝ, UpTo (kept 0 (head y0 p) (head y1 p)) LS (0 + 256) → (∀ c, M (ix2 0 c) = s c) →
      UpTo (e := .bf16) (weight 0 (head y0 p) (head y1 p) s) LP (0 + 256))
    (hS : UpTo (kept 0 (head y0 p) (head y1 p)) LS (0 + 256))
    (hM : RealRow M)
    (hA : ∀ (r : Fin 144) (k : Fin 256), A (ix2 r k) = if hr : r.val < 128 then head y2 p k.val ⟨r.val, hr⟩ else 1)
    (hZ : ∀ (r : Fin 256) (d : Fin 128), Z (ix2 r d) = head y3 p (0 + r.val) d) (r : Fin 256) (d : Fin 128) :
    (truncf .bf16 (mulf (transpose S256x128 [1, 0] (mulf
        (extractStridedSlice S128x256 ![0, 0] (matmul (φ₂ := .bf16) (DotDims.plain 144 256 256) none A
          (v.readCov LP (Rect.unit (s := S2048x256) ![0, 0] (⟨2, ![256, 256]⟩ : Shape).size inb).toLoadRect) (constant ⟨2, ![144, 256]⟩ .f32 0#32)) h1)
        (broadcastTo S128x256 (divf (broadcast S1x256 (FloatOps.ofBits .f32 1065353216#32))
          (extractStridedSlice S1x256 ![128, 0] (matmul (φ₂ := .bf16) (DotDims.plain 144 256 256) none A
            (v.readCov LP (Rect.unit (s := S2048x256) ![0, 0] (⟨2, ![256, 256]⟩ : Shape).size inb).toLoadRect) (constant ⟨2, ![144, 256]⟩ .f32 0#32)) h2)) h3)) h4)
      (mulf (extf .f32 Z h5) (logistic (extf .f32 Z h6)))) h7 : FVec Ideal S256x128 .bf16) (ix2 r d)
      = mix 0 (head y0 p) (head y1 p) (head y2 p) (0 + r.val) d (head y3 p (0 + r.val) d) := by
  refine (out_apply rfl (by decide) hA (s := fun c => (M (ix2 0 c) : EReal).toReal) ?_ r d).trans (congrArg _ (hZ r d))
  intro k c
  exact readCov_upTo (hP _ hS hM.eq) v inb (by omega) k c

/-- Scores against the rows of the query's own block alone. -/
theorem own_scores {Q K : ℕ → Fin 128 → EReal} {o : ℕ} {A B : FVec Ideal S256x128 .bf16}
    (hA : ∀ (r : Fin 256) d, A (ix2 r d) = K (o + r.val) d) (hB : ∀ (c : Fin 256) d, B (ix2 c d) = Q (o + c.val) d) (r c : Fin 256) :
    matmul (DotDims.transposedRhs 256 128 256) none A B (constant S256x256 .f32 0#32) (ix2 r c) = score Q K (o + r.val) (o + c.val) := by
  refine (Ideal.matmul_transposedRhs_apply _ _ _ _ _ _).trans ?_
  refine (congrArg (· + _) (show _ = (0 : EReal) from Ideal.ofBits_zero_f32)).trans ((zero_add _).trans ?_)
  exact Finset.sum_congr rfl fun d _ => congrArg₂ (· * ·) (hA r d) (hB c d)

/-- Stored scores, loaded back. -/
theorem isX_load {o n m : ℕ} {Q K : ℕ → Fin 128 → EReal} {L : List (View.Piece (Elt Ideal) S2048x256 .f32)} (h : UpTo (kept o Q K) L m)
    {sp} {v : View sig .tc sp S2048x256 .f32} {inb} (hn : n + 256 ≤ m) :
    IsX o Q K n (v.readCov L (Rect.unit (s := S2048x256) ![n, 0] (⟨2, ![256, 256]⟩ : Shape).size inb).toLoadRect) :=
  fun r c => readCov_upTo h v inb hn r c

/-- The gate of a past block, at a literal offset. -/
theorem gate_row' {o : ℕ} {Q K : ℕ → Fin 128 → EReal} {k : ℕ} {X : FVec Ideal S256x256 .f32} {hr hf ha h} (hX : IsX o Q K (k * 256) X) (hn : k * 256 < o) (ho : 256 ∣ o)
    (hk : k < 8) (c : Fin 256) : shapeCast S1x256 (multiReduction .add [0] S256 X 0#32 hr hf ha) h (ix2 0 c) = gate Q K (o + c.val) ⟨k, hk⟩ :=
  gate_row (n := ⟨k, hk⟩) hX hn ho c

/-- The weights of a past block, at a literal offset. -/
theorem weight_past' {o : ℕ} {Q K : ℕ → Fin 128 → EReal} (hfin : ∀ row qp, ∃ r : ℝ, score Q K row qp = r) {n k : ℕ} {M : FVec Ideal S1x256 .f32} {b : FVec Ideal S8x256 .f32} {Y : FVec Ideal S256x256 .f32} {m : Fin 256 → ℝ} {hs hb hw h}
    (hM : ∀ c, M (ix2 0 c) = m c) (hB : IsBias o Q K b) (hY : IsX o Q K k Y) (hk : k = n * 256) (hn : n * 256 + 256 ≤ o) (ho : o + 256 ≤ 2048) (r c : Fin 256) :
    shapeCast S256x256 (truncf .bf16 (exp2 (subf Y (broadcastTo S256x256 (subf M (extractStridedSlice S1x256 ![n, 0] b hs)) hb))) hw) h (ix2 r c)
      = weight o Q K m (k + r.val) c := by
  subst hk
  exact weight_past hfin hM hB hn ho hY r c

/-- The bias, with the hypotheses in the order in which they are found. -/
theorem isBias' {o : ℕ} {Q K : ℕ → Fin 128 → EReal} {g : FVec Ideal S8x256 .f32} {j : ℕ} {cnt : IVec S8x256 32} {jb : BitVec 32} {hi}
    (hjb : jb = BitVec.ofNat 32 j) (hc : Counts g j cnt) (hg : IsGate o Q K g) (hj : j * 256 = o) (ho : o < 2048) :
    IsBias o Q K (select (andi (cmpi .slt cnt (broadcast S8x256 3#32)) (cmpi .slt (iota .tc S8x256 32 [0] hi) (broadcast S8x256 jb)))
      (broadcast S8x256 (FloatOps.ofBits .f32 0#32 : Ideal .f32)) (broadcast S8x256 (Named.named κ "mask" 0xF149F2CA#32 : Ideal .f32))) :=
  isBias hg hc hj ho hjb

end Moba
end
-- ==== Proof.Units.lean ====
/-
  What the kernel writes on one block of its grid is the layer's result there.
-/
module

public import proofs.«01_k».proof.Proof.Unit
@[expose] public section

set_option maxRecDepth 16384
noncomputable section
namespace Moba
open Idealize.ShloMosaic Idealize.ShloMosaic.TcCoe Idealize.ShloMosaic.Tactic
open Idealize.SL.Sem
open Cert.KernelIdeal Cert.KernelIdeal.Gen

variable (c : Dev nD) (i : grid0.Coords) (arg2 : Memref sig .tc .vmem S2048x512 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S4x144x2048 .bf16) (harg7 : arg7.IsWhole) (arg8 : Memref sig .tc .vmem S2048x256 .f32) (harg8 : arg8.IsWhole)
  (arg9 : Memref sig .tc .vmem S2048x256 .f32) (harg9 : arg9.IsWhole) (arg10 : Memref sig .tc .vmem S2048x256 .f32) (harg10 : arg10.IsWhole)
  (arg11 : Memref sig .tc .vmem S2048x256 .bf16) (harg11 : arg11.IsWhole) (arg12 : Memref sig .tc .vmem S2048x256 .bf16) (harg12 : arg12.IsWhole)
  (x0 x1 x2 x3 : Vec Ideal S2048x512 .bf16)

attribute [local irreducible] shapeCast maximumf multiReduction addf extractStridedSlice select

set_option maxHeartbeats 8000000 in
/-- Each of the 32 blocks the kernel writes, four heads of eight blocks of queries, is the layer's result there. -/
theorem all_units (hfin : ∀ p row qp, ∃ r : ℝ, score (head x0 p) (head x1 p) row qp = r) :
    View.PiecesOf (Val := Elt Ideal) (blockOut x0 x1 x2 x3)
      (kernelRun0_A (F := Ideal) c i arg2 harg2 arg3 harg3 arg4 harg4 arg5 harg5 arg6 harg6 arg7 harg7 arg8 harg8 arg9 harg9 arg10 harg10 arg11 harg11 arg12 harg12 x0 x1 x2 x3).1 := by
  iterate 32 refine out_step (by decide) (by decide) ?_ ?_; rotate_left
  · trivial
  all_goals first
  | apply unit_apply
    · decide
    · intro s hS hB hM
      refine upTo_step (weight_own (hfin _) hM (by decide) (isX_load hS (by decide))) ?_
      repeat refine upTo_step (weight_past' (hfin _) hM hB (isX_load hS (by decide)) rfl (by decide) (by decide)) ?_
      exact upTo_zero _ _
    · refine upTo_step (isX_cast (isX_own (slice_scores (readAt_head harg3 x1 _) (readAt_head harg2 x0 _)))) ?_
      repeat refine upTo_step (fun r c => isX_cast (isX_past (by decide) (readAt_head harg3 x1 _) (readAt_head harg2 x0 _)) r c) ?_
      exact upTo_zero _ _
    · apply isBias' rfl
      · repeat refine counts_succ ?_ rfl
        exact counts_zero
      · refine isGate (h := by simp only [List.map]; decide) ?_
        repeat refine Rows.row (fun hk r => gate_row' (isX_past (by decide) (readAt_head harg3 x1 _) (readAt_head harg2 x0 _)) (by decide) (by decide) hk r) ?_
        exact Rows.last (by decide)
      · decide
      · decide
    · intro hB
      repeat refine realRow_max ?_ (realRow_past (hfin _) (isX_past (by decide) (readAt_head harg3 x1 _) (readAt_head harg2 x0 _)) (by decide)) hB (by decide)
      exact realRow_own (hfin _) (isX_own (slice_scores (readAt_head harg3 x1 _) (readAt_head harg2 x0 _)))
    · rfl
    · decide
    · exact valuesT_load c arg4 harg4 x2 rfl
    · exact readAt_head harg5 x3 _
  | apply first_apply
    · intro s hS hM
      refine upTo_step (weight_own (hfin _) hM (by decide) (isX_load hS (by decide))) ?_
      exact upTo_zero _ _
    · refine upTo_step (isX_cast (isX_own (own_scores (readAt_head harg3 x1 _) (readAt_head harg2 x0 _)))) ?_
      exact upTo_zero _ _
    · exact realRow_own (hfin _) (isX_own (own_scores (readAt_head harg3 x1 _) (readAt_head harg2 x0 _)))
    · exact valuesT_load c arg4 harg4 x2 rfl
    · exact readAt_head harg5 x3 _

end Moba
end
-- ==== Proof.Layer.lean ====
/-
  The attention as a function of the projected rows [q | k | v | z] of all sequences, and the rows of a block of
  them.
-/
module

public import proofs.«01_k».proof.Proof.Spec
@[expose] public section

noncomputable section
namespace Moba
open Idealize.ShloMosaic

/-- The projected rows of all the sequences. -/
abbrev Rows8 : Type := Vec Ideal (⟨2, ![16384, 8192]⟩ : Shape) .bf16

/-- Row `r` of sequence `b`, the 128 columns of one head starting at `p`. Zero outside. -/
def rows (x : Rows8) (b p r : ℕ) (d : Fin 128) : EReal :=
  if h : r < 2048 ∧ b * 2048 + r < 16384 ∧ p + d.val < 8192 then x (ix2 ⟨b * 2048 + r, h.2.1⟩ ⟨p + d.val, h.2.2⟩) else 0

/-- The layer's attention: one element per row and column of its result. -/
def layer (x : Rows8) (i : (⟨2, ![16384, 2048]⟩ : Shape).Idx) : EReal :=
  mix ((i 0).val % 2048 / 256 * 256) (rows x ((i 0).val / 2048) ((i 1).val / 128 * 128))
    (rows x ((i 0).val / 2048) (2048 + (i 1).val / 128 * 128)) (rows x ((i 0).val / 2048) (4096 + (i 1).val / 128 * 128))
    ((i 0).val % 2048) ⟨(i 1).val % 128, Nat.mod_lt _ (by decide)⟩
    (x (ix2 (i 0) ⟨6144 + (i 1).val, by have := (i 1).isLt; change (i 1).val < 2048 at this; omega⟩))

/-- The queries and keys are real numbers. -/
def RealQK (x : Rows8) : Prop := ∀ (r : Fin 16384) (c : Fin 8192), c.val < 4096 → ∃ v : ℝ, x (ix2 r c) = v

/-- Rows of real numbers have a real product. -/
theorem real_score {Q K : ℕ → Fin 128 → EReal} (hQ : ∀ r d, ∃ v : ℝ, Q r d = v) (hK : ∀ r d, ∃ v : ℝ, K r d = v)
    (row qp : ℕ) : ∃ v : ℝ, score Q K row qp = v := by
  choose q hq using hQ
  choose k hk using hK
  refine ⟨∑ d, k row d * q qp d, ?_⟩
  unfold score
  rw [← coe_sum]
  exact Finset.sum_congr rfl fun d _ => by rw [hq, hk, EReal.coe_mul]

/-- A head of a block of real numbers is real. -/
theorem real_head {x : Vec Ideal Cert.KernelIdeal.S2048x512 .bf16} (h : ∀ i, ∃ v : ℝ, x i = v) (p r : ℕ) (d : Fin 128) :
    ∃ v : ℝ, head x p r d = v := by
  unfold head
  split
  · exact h _
  · exact ⟨0, EReal.coe_zero.symm⟩

/-- The queries and keys of an array in which they are finite are real. -/
theorem real_rows {x : Rows8} (h : RealQK x) (b p r : ℕ) (d : Fin 128) (hp : p + 128 ≤ 4096) : ∃ v : ℝ, rows x b p r d = v := by
  unfold rows
  split
  · exact h _ _ (by show p + d.val < 4096; omega)
  · exact ⟨0, EReal.coe_zero.symm⟩

end Moba
end
-- ==== Proof.Arrays.lean ====
/-
  What the kernel leaves in its result array: the layer's attention of its argument.
-/
module

public import proofs.«01_k».proof.Proof.Units
public import proofs.«01_k».proof.Proof.Layer
public import proofs.«01_k».proof.Proof.Gen.KernelIdeal.Value
@[expose] public section

noncomputable section
namespace Moba
open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

/-- The five windows' block indices, at each point of the grid. -/
theorem indices : ∀ t : Fin grid0.N,
    win0_0.index t = ![(grid0.coords t 0).val, (grid0.coords t 1).val]
    ∧ win0_1.index t = ![(grid0.coords t 0).val, 4 + (grid0.coords t 1).val]
    ∧ win0_2.index t = ![(grid0.coords t 0).val, 8 + (grid0.coords t 1).val]
    ∧ win0_3.index t = ![(grid0.coords t 0).val, 12 + (grid0.coords t 1).val]
    ∧ win0_4.index t = ![(grid0.coords t 0).val, (grid0.coords t 1).val] := by
  decide +kernel

/-- The grid has 8 by 4 points. -/
theorem coords_lt (t : Fin cfg0.N) : (grid0.coords t 0).val < 8 ∧ (grid0.coords t 1).val < 4 :=
  ⟨(grid0.coords t 0).isLt, (grid0.coords t 1).isLt⟩

/-- The queries' window, at each point: the rows of one sequence, the columns of four heads. -/
theorem queries_apply (c : Dev nD) (t : Fin cfg0.N) (r : Fin 2048) (d : Fin 512) :
    iblk (F := Ideal) m c 0 t (ix2 r d) = m ((c : Thread nD τ).loc main_arg0)
      (ix2 ⟨(grid0.coords t 0).val * 2048 + r.val, by have := coords_lt t; omega⟩
        ⟨(grid0.coords t 1).val * 512 + d.val, by have := coords_lt t; omega⟩) := by
  blk_ext [iblk, V_main_arg0, indices t]

/-- The keys' window. -/
theorem keys_apply (c : Dev nD) (t : Fin cfg0.N) (r : Fin 2048) (d : Fin 512) :
    iblk (F := Ideal) m c 1 t (ix2 r d) = m ((c : Thread nD τ).loc main_arg0)
      (ix2 ⟨(grid0.coords t 0).val * 2048 + r.val, by have := coords_lt t; omega⟩
        ⟨2048 + ((grid0.coords t 1).val * 512 + d.val), by have := coords_lt t; omega⟩) := by
  blk_ext [iblk, V_main_arg0, indices t]

/-- The values' window. -/
theorem values_apply (c : Dev nD) (t : Fin cfg0.N) (r : Fin 2048) (d : Fin 512) :
    iblk (F := Ideal) m c 2 t (ix2 r d) = m ((c : Thread nD τ).loc main_arg0)
      (ix2 ⟨(grid0.coords t 0).val * 2048 + r.val, by have := coords_lt t; omega⟩
        ⟨4096 + ((grid0.coords t 1).val * 512 + d.val), by have := coords_lt t; omega⟩) := by
  blk_ext [iblk, V_main_arg0, indices t]

/-- The gates' window. -/
theorem gates_apply (c : Dev nD) (t : Fin cfg0.N) (r : Fin 2048) (d : Fin 512) :
    iblk (F := Ideal) m c 3 t (ix2 r d) = m ((c : Thread nD τ).loc main_arg0)
      (ix2 ⟨(grid0.coords t 0).val * 2048 + r.val, by have := coords_lt t; omega⟩
        ⟨6144 + ((grid0.coords t 1).val * 512 + d.val), by have := coords_lt t; omega⟩) := by
  blk_ext [iblk, V_main_arg0, indices t]

/-- A head of a window that holds the columns from `q` on is the head of the array there. -/
theorem head_eq_rows (x : Rows8) (y : Vec Ideal S2048x512 .bf16) (b q p p' : ℕ) (hb : b < 8) (hq : q + 512 ≤ 8192) (hp : p + 128 ≤ 512)
    (hy : ∀ (r : Fin 2048) (d : Fin 512), y (ix2 r d) = x (ix2 ⟨b * 2048 + r.val, by omega⟩ ⟨q + d.val, by omega⟩))
    (hp' : p' = q + p) : head y p = rows x b p' := by
  subst hp'
  funext r d
  unfold head rows
  by_cases hr : r < 2048
  · rw [dif_pos ⟨hr, by omega⟩, dif_pos ⟨hr, by omega, by omega⟩, hy]
    congr 1
    exact congrArg _ (Fin.ext (by show q + (p + d.val) = q + p + d.val; omega))
  · rw [dif_neg (fun h => hr h.1), dif_neg (fun h => hr h.1)]

/-- What a point leaves in the result's staging buffer. -/
theorem out_block (c : Dev nD) (t : Fin cfg0.N)
    (h0 : ∀ i, ∃ v : ℝ, iblk (F := Ideal) m c 0 t i = (v : EReal)) (h1 : ∀ i, ∃ v : ℝ, iblk (F := Ideal) m c 1 t i = (v : EReal)) :
    outsAt0 (F := Ideal) m c t
      = blockOut (iblk (F := Ideal) m c 0 t) (iblk (F := Ideal) m c 1 t) (iblk (F := Ideal) m c 2 t) (iblk (F := Ideal) m c 3 t) := by
  unfold outsAt0 out0_A_4
  rw [View.read_writes_junk_eq_canon]
  funext y
  refine View.canon_apply_of_pieces _ _ (fun p hp x => View.PiecesOf.mem (all_units _ _ _ _ _ _ _ _ _ _ _ _ _ _ _ _ _ _ _ _ _ _ _ _ _ _ _ _ ?_) p hp x) y
    (cover0_A_4 _ _ _ _ _ _ _ _ _ _ _ _ _ _ _ _ _ _ _ _ _ _ _ _ _ _ _ _ y)
  exact fun p row qp => real_score (real_head h0 p) (real_head h1 p) row qp

/-- The layer's attention on one block of the result. -/
theorem blockOut_eq_layer (c : Dev nD) (t : Fin cfg0.N) (r : Fin 2048) (d : Fin 512) :
    blockOut (iblk (F := Ideal) m c 0 t) (iblk (F := Ideal) m c 1 t) (iblk (F := Ideal) m c 2 t) (iblk (F := Ideal) m c 3 t) (ix2 r d)
      = layer (m ((c : Thread nD τ).loc main_arg0))
          (ix2 ⟨(grid0.coords t 0).val * 2048 + r.val, by have := coords_lt t; omega⟩
            ⟨(grid0.coords t 1).val * 512 + d.val, by have := coords_lt t; omega⟩) := by
  obtain ⟨hb, hg⟩ := coords_lt t
  have hr := r.isLt
  have hd := d.isLt
  have hp : d.val / 128 * 128 + 128 ≤ 512 := by omega
  unfold blockOut layer
  show mix (r.val / 256 * 256) (head _ (d.val / 128 * 128)) (head _ (d.val / 128 * 128)) (head _ (d.val / 128 * 128)) r.val ⟨d.val % 128, _⟩ (iblk (F := Ideal) m c 3 t (ix2 r d))
    = mix (((grid0.coords t 0).val * 2048 + r.val) % 2048 / 256 * 256)
      (rows _ (((grid0.coords t 0).val * 2048 + r.val) / 2048) (((grid0.coords t 1).val * 512 + d.val) / 128 * 128))
      (rows _ (((grid0.coords t 0).val * 2048 + r.val) / 2048) (2048 + ((grid0.coords t 1).val * 512 + d.val) / 128 * 128))
      (rows _ (((grid0.coords t 0).val * 2048 + r.val) / 2048) (4096 + ((grid0.coords t 1).val * 512 + d.val) / 128 * 128))
      (((grid0.coords t 0).val * 2048 + r.val) % 2048) ⟨((grid0.coords t 1).val * 512 + d.val) % 128, _⟩ _
  have e1 : ((grid0.coords t 0).val * 2048 + r.val) % 2048 = r.val := by omega
  have e2 : ((grid0.coords t 0).val * 2048 + r.val) / 2048 = (grid0.coords t 0).val := by omega
  have e3 : ((grid0.coords t 1).val * 512 + d.val) % 128 = d.val % 128 := by omega
  rw [e1, e2,
    head_eq_rows (m ((c : Thread nD τ).loc main_arg0)) _ (grid0.coords t 0).val ((grid0.coords t 1).val * 512) (d.val / 128 * 128) _ hb (by omega) hp
      (fun r d => queries_apply m c t r d) rfl,
    head_eq_rows (m ((c : Thread nD τ).loc main_arg0)) _ (grid0.coords t 0).val (2048 + (grid0.coords t 1).val * 512) (d.val / 128 * 128) _ hb (by omega) hp
      (fun r d => (keys_apply m c t r d).trans (by simp only [Nat.add_assoc])) rfl,
    head_eq_rows (m ((c : Thread nD τ).loc main_arg0)) _ (grid0.coords t 0).val (4096 + (grid0.coords t 1).val * 512) (d.val / 128 * 128) _ hb (by omega) hp
      (fun r d => (values_apply m c t r d).trans (by simp only [Nat.add_assoc])) rfl,
    gates_apply]
  simp only [e3, show ((grid0.coords t 1).val * 512 + d.val) / 128 * 128 = (grid0.coords t 1).val * 512 + d.val / 128 * 128 by omega, Nat.add_assoc]
  rfl

/-- The result array after the run is the layer's attention of the argument. -/
theorem kernel_value (c : Dev nD) (h : RealQK (m ((c : Thread nD τ).loc main_arg0))) :
    (dats (F := Ideal) m 0 c).arrAt 4 cfg0.N = layer (m ((c : Thread nD τ).loc main_arg0)) := by
  refine (dats (F := Ideal) m 0 c).arrAt_eq_of_covers 4 _ (by decide +kernel) fun t hf y => ?_
  have h0 : ∀ i, ∃ v : ℝ, iblk (F := Ideal) m c 0 t i = (v : EReal) := fun i => by
    obtain ⟨r, d, rfl⟩ : ∃ (r : Fin 2048) (d : Fin 512), i = ix2 r d := ⟨i 0, i 1, by idx_vars i⟩
    rw [queries_apply]
    exact h _ _ (by have := coords_lt t; show (grid0.coords t 1).val * 512 + d.val < 4096; have := d.isLt; omega)
  have h1 : ∀ i, ∃ v : ℝ, iblk (F := Ideal) m c 1 t i = (v : EReal) := fun i => by
    obtain ⟨r, d, rfl⟩ : ∃ (r : Fin 2048) (d : Fin 512), i = ix2 r d := ⟨i 0, i 1, by idx_vars i⟩
    rw [keys_apply]
    exact h _ _ (by have := coords_lt t; show 2048 + ((grid0.coords t 1).val * 512 + d.val) < 4096; have := d.isLt; omega)
  blk_simp
  rw [after0_4, out_block m c t h0 h1]
  obtain ⟨r, d, rfl⟩ : ∃ (r : Fin 2048) (d : Fin 512), y = ix2 r d := ⟨y 0, y 1, by idx_vars y⟩
  refine (blockOut_eq_layer m c t r d).trans (congrArg (layer _) ?_)
  blk_ext [indices t]

end Moba
end
-- ==== Proof.Reference.lean ====
/-
  The reference's result: the layer's attention of its argument.
-/
module

public import proofs.«01_k».proof.Proof.Layer
public import proofs.«01_k».proof.Proof.Gen.ReferenceIdeal.Read
public import Idealize.ShloMosaic.Lib.Affine
public import Idealize.ShloMosaic.Lib.Routing.Words
@[expose] public section

noncomputable section
namespace Moba
open Idealize.ShloMosaic Idealize.ShloMosaic.TcCoe Idealize.ShloMosaic.Tactic
open Cert.ReferenceIdeal Cert.ReferenceIdeal.Facts₀ Cert.ReferenceIdeal.Read

variable (x : Rows8) (b : Fin 8) (h : Fin 16) (s : Fin 2048)

/-- Rows of a head, inside the array. -/
theorem rows_apply (p : ℕ) (d : Fin 128) (hp : p + 128 ≤ 8192) :
    rows x b.val p s.val d = x (ix2 ⟨b.val * 2048 + s.val, by omega⟩ ⟨p + d.val, by omega⟩) := by
  unfold rows
  rw [dif_pos ⟨by omega, by omega, by omega⟩]

/-- The projected rows, sequence by sequence. -/
theorem v1_apply (c : Fin 8192) :
    val_main_v1 (F := Ideal) x (ix3 b s c) = x (ix2 ⟨b.val * 2048 + s.val, by omega⟩ c) := by
  rw [val_main_v1_apply, val_main_v0_apply]
  refine congrArg x ?_
  blk_ext [idx_main_v1]

/-- The queries of each head. -/
theorem q_apply (d : Fin 128) :
    val_main_v7 (F := Ideal) x (ix4 b h s d) = rows x b.val (h.val * 128) s.val d := by
  rw [val_main_v7_apply, val_main_v6_apply, val_main_v2_apply, rows_apply _ _ _ _ _ (by omega), ← v1_apply x b s]
  refine congrArg (val_main_v1 (F := Ideal) x) ?_
  blk_ext [idx_main_v7, idx_main_v6, idx_main_v2]

/-- The keys of each head. -/
theorem k_apply (d : Fin 128) :
    val_main_v9 (F := Ideal) x (ix4 b h s d) = rows x b.val (2048 + h.val * 128) s.val d := by
  rw [val_main_v9_apply, val_main_v8_apply, val_main_v3_apply, rows_apply _ _ _ _ _ (by omega), ← v1_apply x b s]
  refine congrArg (val_main_v1 (F := Ideal) x) ?_
  blk_ext [idx_main_v9, idx_main_v8, idx_main_v3]

/-- The values of each head. -/
theorem v_apply (d : Fin 128) :
    val_main_v11 (F := Ideal) x (ix4 b h s d) = rows x b.val (4096 + h.val * 128) s.val d := by
  rw [val_main_v11_apply, val_main_v10_apply, val_main_v4_apply, rows_apply _ _ _ _ _ (by omega), ← v1_apply x b s]
  refine congrArg (val_main_v1 (F := Ideal) x) ?_
  blk_ext [idx_main_v11, idx_main_v10, idx_main_v4]

/-! ## The gate -/

/-- The word of 256. -/
theorem ofBits_256 : Ideal.ofBits .f32 0x43800000#32 = ((256 : ℝ) : EReal) := by
  simp [Ideal.ofBits, Ideal.ieee]
  rw [← EReal.coe_mul]
  norm_num

/-- The product with the mean of the rows is the mean of the products. -/
theorem mean_gate (Q : Fin 128 → ℝ) (K : Fin 256 → Fin 128 → ℝ) :
    ∑ d, (Q d : EReal) * Ideal.div (0 + ∑ r, (K r d : EReal)) ((256 : ℝ) : EReal)
      = (((∑ r, ∑ d, K r d * Q d) / 256 : ℝ) : EReal) := by
  have e : ∀ d, (Q d : EReal) * Ideal.div (0 + ∑ r, (K r d : EReal)) ((256 : ℝ) : EReal)
      = ((Q d * ((∑ r, K r d) * (256 : ℝ)⁻¹) : ℝ) : EReal) := fun d => by
    rw [zero_add, coe_sum]
    unfold Ideal.div
    rw [if_neg (by exact_mod_cast (by norm_num : (256 : ℝ) ≠ 0)), ← EReal.coe_inv, ← EReal.coe_mul, ← EReal.coe_mul]
  rw [Finset.sum_congr rfl fun d _ => e d, coe_sum, Finset.sum_comm]
  congr 1
  rw [div_eq_mul_inv, Finset.sum_mul]
  refine Finset.sum_congr rfl fun d _ => ?_
  rw [← Finset.sum_mul]
  ring

/-- The means of the keys of each block. -/
theorem mean_apply (n : Fin 8) (d : Fin 128) :
    val_main_v15 (F := Ideal) x (ix4 b h n d)
      = Ideal.div (0 + ∑ r : Fin 256, rows x b.val (2048 + h.val * 128) (n.val * 256 + r.val) d) ((256 : ℝ) : EReal) := by
  rw [val_main_v15_apply, Ideal.hostDivf_def, val_main_v14_apply, val_main_cst_0_apply, val_main_v13_apply, val_main_cst_apply]
  refine congr (congrArg _ (congr (congrArg _ Ideal.ofBits_zero_f32) (Finset.sum_congr rfl fun r _ => ?_))) ofBits_256
  rw [val_main_v12_apply, ← k_apply x b h ⟨n.val * 256 + r.val, by omega⟩ d]
  refine congrArg (val_main_v9 (F := Ideal) x) ?_
  blk_ext [idx_main_v13, idx_main_v12]

/-- The gate of a block is the mean, over its keys, of the scores. -/
theorem gate_apply (hx : RealQK x) : ∃ g : Fin 8 → ℝ, ∀ n : Fin 8,
    val_main_v16 (F := Ideal) x (ix4 b h s n) = ((g n / 256 : ℝ) : EReal)
    ∧ gate (rows x b.val (h.val * 128)) (rows x b.val (2048 + h.val * 128)) s.val n = (g n : EReal) := by
  choose Q hQ using fun d => real_rows hx b.val (h.val * 128) s.val d (by omega)
  choose K hK using fun r d => real_rows hx b.val (2048 + h.val * 128) r d (by omega)
  refine ⟨fun n => ∑ r : Fin 256, ∑ d, K (n.val * 256 + r.val) d * Q d, fun n => ⟨?_, ?_⟩⟩
  · rw [val_main_v16_apply, ← mean_gate]
    refine Finset.sum_congr rfl fun d _ => ?_
    refine congr (congrArg _ ((congrArg _ ?_).trans ((q_apply x b h s d).trans (hQ d)))) ((congrArg _ ?_).trans ((mean_apply x b h n d).trans ?_))
    · blk_ext [lidx_main_v16]
    · blk_ext [ridx_main_v16]
    · simp only [hK]
  · unfold gate score
    simp only [hK, hQ, ← EReal.coe_mul, coe_sum]

/-! ## The selected blocks -/

/-- A small number read back from its signed word. -/
theorem toInt_small {a : ℕ} (ha : a < 2 ^ 31) : (BitVec.ofNat 32 a).toInt = a := by
  rw [BitVec.toInt_eq_toNat_of_lt] <;> rw [BitVec.toNat_ofNat] <;> omega

/-- The blocks before a query's own. -/
theorem past_iff (n : Fin 8) : val_main_v25 (F := Ideal) (ix2 s n) = 1#1 ↔ n.val < s.val / 256 := by
  rw [val_main_v25_apply, IntOp.cmpi_slt, val_main_v23_apply, val_main_v21_apply, val_main_v20_apply, val_main_v24_apply, val_main_v22_apply,
    val_main_v19_apply, val_main_v17_apply, val_main_v18_apply, val_main_c_apply]
  rw [show (256#32) = BitVec.ofNat 32 256 from rfl, Routing.divsi_word _ (by show s.val < 2 ^ 31; omega) (by decide) (by decide)]
  show (BitVec.ofNat 32 n.val).toInt < (BitVec.ofNat 32 (s.val / 256)).toInt ↔ _
  rw [toInt_small (by omega), toInt_small (by omega)]
  omega

/-- The masked gate: minus infinity but for the blocks before the query's own. -/
theorem masked_apply (n : Fin 8) :
    val_main_v26 (F := Ideal) x (ix4 b h s n) = if n.val < s.val / 256 then val_main_v16 (F := Ideal) x (ix4 b h s n) else ⊥ := by
  rw [val_main_v26_apply, val_main_call0_v1_apply, val_main_call0_v2_apply, val_main_call0_v0_apply, val_main_cst_1_apply]
  unfold Scalar.select
  refine (congrArg (fun c : BitVec 1 => if c = 1#1 then _ else _) (congrArg _ (show _ = ix2 s n from ?_))).trans ?_
  · blk_ext [idx_main_call0_v1]
  · exact if_congr (past_iff s n) rfl (by simp [Ideal.ofBits, Ideal.ieee])

/-- Block `k` is sorted before block `k'`: its value is greater. -/
def sooner (y : S8x16x2048x8.Idx → Ideal .f32) (k k' : Fin 8) : Bool :=
  FloatOps.cmpfTotal (F := Ideal) (φ := .f32) .gt (y (ix4 b h s k)) (y (ix4 b h s k')) == 1#1

/-- The sorted axis is an axis of the array. -/
theorem axis_lt : 3 < S8x16x2048x8.rank := by decide

/-- The first three positions of the sort. -/
theorem topK_apply (y : S8x16x2048x8.Idx → Ideal .f32) (hs) (t : Fin 3) :
    (Host.topK S8x16x2048x3 3 (FloatOps.cmpfTotal (F := Ideal) .gt) y hs).2 (ix4 b h s t)
      = BitVec.ofNat 32 (sortedFrom (sooner b h s y) ⟨t.val, by omega⟩).val := by
  unfold Host.topK
  dsimp only
  refine (extractStridedSlice_apply (fun _ => 0) _ hs (ix4 b h s t) (ix4 b h s ⟨t.val, by omega⟩) (fun a => ?_)).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · have e : ∀ k : Fin (S8x16x2048x8.size ⟨3, axis_lt⟩), Shape.Idx.along (s := S8x16x2048x8) (ix4 b h s ⟨t.val, by omega⟩) ⟨3, axis_lt⟩ k = ix4 b h s k := fun k => by
      funext a
      match a with
      | ⟨0, _⟩ => rfl
      | ⟨1, _⟩ => rfl
      | ⟨2, _⟩ => rfl
      | ⟨3, _⟩ => rfl
    unfold Host.sort2
    rw [dif_pos (show 3 < S8x16x2048x8.rank by decide)]
    dsimp only
    rw [dif_pos (show 3 < 4 by decide)]
    simp only [e]
    rfl

/-- A disjunction over an axis holds where one of its terms does. -/
theorem fold_ori {ι : Type} [DecidableEq ι] (S : Finset ι) (f : ι → BitVec 1) :
    S.fold IntOp.ori 0#1 f = 1#1 ↔ ∃ k ∈ S, f k = 1#1 := by
  have e := Finset.fold_op_rel_iff_or (op := IntOp.ori) (r := fun (_ y : BitVec 1) => y = 1#1) (f := f) (b := 0#1) (s := S)
    (fun {_ _ _} => IntOp.ori_eq_one) (c := 0#1)
  rw [e]
  exact ⟨fun h => h.resolve_left (by decide), .inr⟩

/-- The index that a reduction over the three chosen blocks reads. -/
theorem lift_select (n : Fin 8) (t : Fin 3) (hr : S8x16x2048x3x8.Reduces [3] S8x16x2048x8) :
    hr.lift (ix4 b h s n) t = ix5 b h s t n :=
  funext fun a => Fin.ext (by match a with | ⟨0, _⟩ => rfl | ⟨1, _⟩ => rfl | ⟨2, _⟩ => rfl | ⟨3, _⟩ => rfl | ⟨4, _⟩ => rfl)

/-- Any of the three: the disjunction over the chosen blocks. -/
theorem reduce_ori_apply (y : S8x16x2048x3x8.Idx → BitVec 1) (n : Fin 8) :
    Host.reduce IntOp.ori y (val_main_c_2 (F := Ideal)) reducesTo_S8x16x2048x3x8_S8x16x2048x8_d3 h_S_ (ix4 b h s n) = 1#1
      ↔ ∃ t : Fin 3, y (ix5 b h s t n) = 1#1 := by
  have hr : S8x16x2048x3x8.Reduces [3] S8x16x2048x8 := by decide
  rw [Host.reduce_eq_fold_single IntOp.ori _ _ reducesTo_S8x16x2048x3x8_S8x16x2048x8_d3 hr h_S_, val_main_c_2_apply]
  refine (fold_ori _ _).trans ?_
  simp only [Finset.mem_univ, true_and]
  exact ⟨fun ⟨t, e⟩ => ⟨t, (congrArg y (lift_select b h s n t hr)).symm.trans e⟩, fun ⟨t, e⟩ => ⟨t, (congrArg y (lift_select b h s n t hr)).trans e⟩⟩

/-- The positions among the first three of the sorted masked gates, where one lies before the query's own block, are the
selected blocks. -/
theorem chosen_iff (hx : RealQK x) (n : Fin 8) :
    val_main_v36 (F := Ideal) x (ix4 b h s n) = 1#1
      ↔ Sel (s.val / 256 * 256) (rows x b.val (h.val * 128)) (rows x b.val (2048 + h.val * 128)) s.val n := by
  obtain ⟨g, hg⟩ := gate_apply x b h s hx
  have hp : val_main_v35 (F := Ideal) (ix4 b h s n) = 1#1 ↔ n.val < s.val / 256 := by
    rw [val_main_v35_apply, val_main_v34_apply, ← past_iff]
    refine iff_of_eq (congrArg (· = 1#1) (congrArg _ ?_))
    blk_ext [idx_main_v35, idx_main_v34]
  have h32 : ∀ t : Fin 3, val_main_v32 (F := Ideal) x (ix5 b h s t n) = 1#1
      ↔ sortedFrom (sooner b h s (val_main_v26 (F := Ideal) x))
        ⟨t.val, by omega⟩ = n := fun t => by
    rw [val_main_v32_apply, IntOp.cmpi_eq, val_main_v30_apply, val_main_v27_apply, val_main_v31_apply, val_main_v29_apply, val_main_v28_apply,
      show idx_main_v27 (idx_main_v30 (ix5 b h s t n)) = ix4 b h s t by blk_ext [idx_main_v27, idx_main_v30]]
    unfold val_main_indices
    rw [topK_apply, Fin.ext_iff]
    constructor
    · intro e
      have e := congrArg BitVec.toNat e
      rw [BitVec.toNat_ofNat, BitVec.toNat_ofNat] at e
      change _ % 2 ^ 32 = n.val % 2 ^ 32 at e
      omega
    · intro e
      rw [e]; rfl
  have h33 : val_main_v33 (F := Ideal) x (ix4 b h s n) = 1#1 ↔ ∃ t : Fin 3, val_main_v32 (F := Ideal) x (ix5 b h s t n) = 1#1 := by
    unfold val_main_v33
    exact reduce_ori_apply b h s _ n
  rw [val_main_v36_apply, IntOp.andi_eq_one, hp, h33]
  simp only [h32]
  have hb : ∀ k i : Fin 8, sooner b h s (val_main_v26 (F := Ideal) x) k i = true
      ↔ val_main_v26 (F := Ideal) x (ix4 b h s i) < val_main_v26 (F := Ideal) x (ix4 b h s k) := fun k i => by
    unfold sooner
    rw [beq_iff_eq, Ideal.cmpfTotal_def]
    show BitVec.ofBool (decide _) = 1#1 ↔ _
    by_cases hlt : val_main_v26 (F := Ideal) x (ix4 b h s i) < val_main_v26 (F := Ideal) x (ix4 b h s k)
    · exact iff_of_true (by rw [decide_eq_true hlt]; rfl) hlt
    · exact iff_of_false (by rw [decide_eq_false hlt]; decide) hlt
  have hs : (∃ t : Fin 3, sortedFrom (sooner b h s (val_main_v26 (F := Ideal) x))
        ⟨t.val, by omega⟩ = n) ↔ (Finset.univ.filter fun m => Beats (α := EReal) (fun k : Fin 8 => val_main_v26 (F := Ideal) x (ix4 b h s k)) m n).card < 3 := by
    rw [← exists_sortedFrom_iff (α := EReal) _ _ hb]
    exact ⟨fun ⟨t, e⟩ => ⟨⟨t.val, by omega⟩, t.isLt, e⟩, fun ⟨t, ht, e⟩ => ⟨⟨t.val, ht⟩, e⟩⟩
  rw [hs]
  unfold Sel
  have ho : ∀ m : Fin 8, m.val < s.val / 256 ↔ m.val * 256 < s.val / 256 * 256 := fun m => by omega
  rw [and_comm, ho n]
  refine and_congr_right fun hn => ?_
  rw [Finset.filter_congr (q := fun m : Fin 8 => m.val * 256 < s.val / 256 * 256
    ∧ Beats (gate (rows x b.val (h.val * 128)) (rows x b.val (2048 + h.val * 128)) s.val) m n) fun m _ => ?_]
  unfold Beats
  simp only [masked_apply, ho, if_pos hn, (hg _).1, (hg _).2]
  by_cases hm : m.val * 256 < s.val / 256 * 256
  · rw [if_pos hm]
    simp only [hm, true_and, EReal.coe_lt_coe_iff, EReal.coe_eq_coe_iff]
    rw [div_lt_div_iff_of_pos_right (by norm_num), div_left_inj' (by norm_num)]
  · rw [if_neg hm]
    simp [hm, EReal.bot_ne_coe]

end Moba
end
-- ==== Proof.Softmax.lean ====
/-
  The reference's softmax and its result, element by element.
-/
module

public import proofs.«01_k».proof.Proof.Reference
@[expose] public section

noncomputable section
namespace Moba
open Idealize.ShloMosaic Idealize.ShloMosaic.TcCoe Idealize.ShloMosaic.Tactic
open Cert.ReferenceIdeal Cert.ReferenceIdeal.Facts₀ Cert.ReferenceIdeal.Read

variable (x : Rows8) (b : Fin 8) (h : Fin 16) (s : Fin 2048)

/-- A query's own block, up to the query. -/
theorem own_iff (t : Fin 2048) : val_main_v48 (F := Ideal) (ix2 s t) = 1#1 ↔ s.val / 256 * 256 ≤ t.val ∧ t.val ≤ s.val := by
  rw [val_main_v48_apply, IntOp.andi_eq_one, val_main_v42_apply, IntOp.cmpi_eq, val_main_v40_apply, val_main_v38_apply, val_main_v41_apply,
    val_main_v39_apply, val_main_v47_apply, IntOp.cmpi_sle, val_main_v45_apply, val_main_v43_apply, val_main_v46_apply, val_main_v44_apply,
    val_main_v37_apply, val_main_v37_apply]
  simp only [val_main_v19_apply, val_main_v17_apply, val_main_v18_apply, val_main_c_apply]
  rw [show (256#32) = BitVec.ofNat 32 256 from rfl]
  show IntOp.divsi .host (BitVec.ofNat 32 t.val) _ = IntOp.divsi .host (BitVec.ofNat 32 s.val) _
    ∧ (BitVec.ofNat 32 t.val).toInt ≤ (BitVec.ofNat 32 s.val).toInt ↔ _
  rw [Routing.divsi_word _ (by omega) (by decide) (by decide), Routing.divsi_word _ (by omega) (by decide) (by decide),
    toInt_small (by omega), toInt_small (by omega)]
  have e : BitVec.ofNat 32 (t.val / 256) = BitVec.ofNat 32 (s.val / 256) ↔ t.val / 256 = s.val / 256 := by
    constructor
    · intro e
      have e := congrArg BitVec.toNat e
      rw [BitVec.toNat_ofNat, BitVec.toNat_ofNat] at e
      omega
    · exact fun e => congrArg _ e
  rw [e]
  omega

/-- The keys a query attends to. -/
theorem attended_iff (hx : RealQK x) (t : Fin 2048) :
    val_main_v53 (F := Ideal) x (ix4 b h s t) = 1#1
      ↔ Att (s.val / 256 * 256) (rows x b.val (h.val * 128)) (rows x b.val (2048 + h.val * 128)) s.val t := by
  rw [val_main_v53_apply, IntOp.ori_eq_one, val_main_v52_apply, val_main_v51_apply, val_main_v50_apply, val_main_v49_apply,
    show idx_main_v51 (idx_main_v52 (ix4 b h s t)) = ix2 s t by blk_ext [idx_main_v51, idx_main_v52],
    show idx_main_v49 (idx_main_v50 (ix4 b h s t)) = ix4 b h s ⟨t.val / 256, by omega⟩ by blk_ext [idx_main_v49, idx_main_v50],
    own_iff, chosen_iff x b h s hx]
  unfold Att
  refine or_congr_right ⟨fun hs => ⟨?_, hs⟩, fun hs => hs.2⟩
  have := hs.1
  change t.val / 256 * 256 < s.val / 256 * 256 at this
  omega

/-- The product of the key and query rows. -/
theorem scores_apply (t : Fin 2048) :
    val_main_v54 (F := Ideal) x (ix4 b h s t) = score (rows x b.val (h.val * 128)) (rows x b.val (2048 + h.val * 128)) t.val s.val := by
  rw [val_main_v54_apply]
  unfold score
  refine Finset.sum_congr rfl fun d _ => ?_
  rw [mul_comm, ← k_apply x b h t d, ← q_apply x b h s d]
  refine congr (congrArg _ (congrArg _ ?_)) (congrArg _ ?_)
  · blk_ext [ridx_main_v54]
  · blk_ext [lidx_main_v54]

/-- The word of 2. -/
theorem ofBits_2 : Ideal.ofBits .f32 0x40000000#32 = ((2 : ℝ) : EReal) := by
  simp [Ideal.ofBits, Ideal.ieee]
  rw [← EReal.coe_mul]
  norm_num

/-- The logarithm of 2. -/
theorem log_2 : Ideal.log (Ideal.ofBits .f32 0x40000000#32) = ((Real.log 2 : ℝ) : EReal) := by
  rw [ofBits_2]
  show (if (2 : ℝ) ≤ 0 then ⊥ else ((Real.log 2 : ℝ) : EReal)) = _
  rw [if_neg (by norm_num)]

/-- The scores before the softmax: minus infinity where a query doesn't attend. -/
theorem logits_apply (hx : RealQK x) (t : Fin 2048) :
    val_main_v58 (F := Ideal) x (ix4 b h s t)
      = if Att (s.val / 256 * 256) (rows x b.val (h.val * 128)) (rows x b.val (2048 + h.val * 128)) s.val t then
          (((score (rows x b.val (h.val * 128)) (rows x b.val (2048 + h.val * 128)) t.val s.val).toReal : ℝ) : EReal) * ((Real.log 2 : ℝ) : EReal)
        else ⊥ := by
  rw [val_main_v58_apply, val_main_call1_v1_apply, val_main_call1_v0_apply, val_main_cst_4_apply, val_main_v57_apply, val_main_v56_apply,
    val_main_v55_apply, val_main_cst_3_apply, scores_apply]
  unfold Scalar.select
  refine if_congr (attended_iff x b h s hx t) ?_ (by simp [Ideal.ofBits, Ideal.ieee])
  obtain ⟨r, hr⟩ := real_score (fun r d => real_rows hx b.val (h.val * 128) r d (by omega))
    (fun r d => real_rows hx b.val (2048 + h.val * 128) r d (by omega)) t.val s.val
  rw [hr, EReal.toReal_coe]
  exact congrArg _ log_2

/-- The index that a reduction over the keys reads. -/
theorem lift_row (t : Fin 2048) (hr : S8x16x2048x2048.Reduces [3] S8x16x2048) :
    hr.lift (ix3 b h s) t = ix4 b h s t :=
  funext fun a => Fin.ext (by match a with | ⟨0, _⟩ => rfl | ⟨1, _⟩ => rfl | ⟨2, _⟩ => rfl | ⟨3, _⟩ => rfl)

/-- The largest of a row with no infinite element is a real number, if some element isn't minus infinity. -/
theorem fold_real (f : Fin 2048 → EReal) (hb : ∃ t, f t ≠ ⊥) (ht : ∀ t, f t ≠ ⊤) :
    ∃ m : ℝ, Finset.fold max (⊥ : EReal) f Finset.univ = m := by
  have hlt : Finset.fold max (⊥ : EReal) f Finset.univ < ⊤ :=
    (Finset.fold_max_lt _).2 ⟨bot_lt_top, fun t _ => lt_top_iff_ne_top.2 (ht t)⟩
  obtain ⟨t, hn⟩ := hb
  have hle : f t ≤ Finset.fold max (⊥ : EReal) f Finset.univ := (Finset.le_fold_max _).2 (.inr ⟨t, Finset.mem_univ t, le_rfl⟩)
  exact ⟨_, (EReal.coe_toReal hlt.ne (fun e => hn (le_bot_iff.1 (e ▸ hle)))).symm⟩

/-- The word of minus infinity. -/
theorem ofBits_bot : Ideal.ofBits .f32 0xFF800000#32 = ⊥ := by simp [Ideal.ofBits, Ideal.ieee]

/-- The largest score of a query. -/
theorem reduce_max_apply (y : S8x16x2048x2048.Idx → EReal) :
    Host.reduce (FloatOps.maximumf (F := Ideal) (φ := .f32)) y (val_main_cst_5 (F := Ideal)) reducesTo_S8x16x2048x2048_S8x16x2048_d3 h_S_ (ix3 b h s)
      = Finset.fold max (⊥ : EReal) (fun t => y (ix4 b h s t)) Finset.univ := by
  have hr : S8x16x2048x2048.Reduces [3] S8x16x2048 := by decide
  rw [Host.reduce_eq_fold_single _ _ _ reducesTo_S8x16x2048x2048_S8x16x2048_d3 hr h_S_, val_main_cst_5_apply]
  have e : (y ∘ hr.lift (ix3 b h s)) = fun t : Fin 2048 => y (ix4 b h s t) := funext fun t => congrArg y (lift_row b h s t hr)
  rw [e]
  exact congrArg (fun z => Finset.fold max z (fun t : Fin 2048 => y (ix4 b h s t)) Finset.univ) ofBits_bot

/-- A query attends to itself. -/
theorem att_self {o : ℕ} (Q K : ℕ → Fin 128 → EReal) (ho : o ≤ s.val) : Att o Q K s.val s := .inl ⟨ho, le_rfl⟩

/-- The largest score of a query is a real number. -/
theorem largest_apply (hx : RealQK x) : ∃ m : ℝ, val_main_v61 (F := Ideal) x (ix3 b h s) = (m : EReal) := by
  obtain ⟨m, hm⟩ := fold_real (fun t => val_main_v58 (F := Ideal) x (ix4 b h s t))
    ⟨s, by
      rw [logits_apply x b h s hx, if_pos (att_self s _ _ (by omega)), ← EReal.coe_mul]
      exact EReal.coe_ne_bot _⟩
    (fun t => by
      rw [logits_apply x b h s hx]
      split
      · rw [← EReal.coe_mul]; exact EReal.coe_ne_top _
      · exact bot_ne_top)
  refine ⟨m, ?_⟩
  rw [val_main_v61_apply, val_main_v60_apply, val_main_cst_6_apply]
  have e : val_main_v59 (F := Ideal) x (ix3 b h s) = (m : EReal) := by
    rw [← hm]
    unfold val_main_v59
    exact reduce_max_apply b h s _
  rw [e]
  show max (Ideal.ofBits .f32 0xFF800000#32) (m : EReal) = m
  rw [show Ideal.ofBits .f32 0xFF800000#32 = ⊥ from ofBits_bot]
  exact max_eq_right bot_le

/-- The exponentials, whose largest score is taken away. -/
theorem weights_apply (hx : RealQK x) : ∃ m : ℝ, ∀ t : Fin 2048, val_main_v65 (F := Ideal) x (ix4 b h s t)
    = Ideal.exp ((if Att (s.val / 256 * 256) (rows x b.val (h.val * 128)) (rows x b.val (2048 + h.val * 128)) s.val t then
          (((score (rows x b.val (h.val * 128)) (rows x b.val (2048 + h.val * 128)) t.val s.val).toReal : ℝ) : EReal) * ((Real.log 2 : ℝ) : EReal)
        else ⊥) - (m : EReal)) := by
  obtain ⟨m, hm⟩ := largest_apply x b h s hx
  refine ⟨m, fun t => ?_⟩
  rw [val_main_v65_apply, val_main_v64_apply, val_main_v63_apply, val_main_v62_apply, ← logits_apply x b h s hx, ← hm]
  exact congrArg (fun i => Ideal.exp (val_main_v58 (F := Ideal) x (ix4 b h s t) - val_main_v61 (F := Ideal) x i))
    (by blk_ext [idx_main_v62, idx_main_v63])

/-- The row of the weights divided by their sum. -/
theorem divided_apply (t : Fin 2048) : val_main_v69 (F := Ideal) x (ix4 b h s t)
    = Ideal.div (val_main_v65 (F := Ideal) x (ix4 b h s t)) (∑ t' : Fin 2048, val_main_v65 (F := Ideal) x (ix4 b h s t')) := by
  rw [val_main_v69_apply, val_main_v68_apply, val_main_v67_apply, val_main_v66_apply, val_main_cst_7_apply]
  refine congrArg (Ideal.div (val_main_v65 (F := Ideal) x (ix4 b h s t))) ?_
  refine (congrArg₂ (fun a c : EReal => a + c) (Ideal.ofBits_zero_f32) (Finset.sum_congr rfl fun k _ => ?_)).trans (zero_add _)
  exact congrArg _ (by blk_ext [idx_main_v66, idx_main_v67, idx_main_v68])

/-- The attention of a query. -/
theorem attn_apply (hx : RealQK x) (d : Fin 128) : val_main_v70 (F := Ideal) x (ix4 b h s d)
    = attn (Att (s.val / 256 * 256) (rows x b.val (h.val * 128)) (rows x b.val (2048 + h.val * 128)) s.val)
        (fun t : Fin 2048 => (score (rows x b.val (h.val * 128)) (rows x b.val (2048 + h.val * 128)) t.val s.val).toReal)
        (fun t => rows x b.val (4096 + h.val * 128) t.val d) := by
  obtain ⟨m, hm⟩ := weights_apply x b h s hx
  rw [← attn_eq_softmax _ _ _ ⟨s, att_self s _ _ (by omega)⟩ m _ hm, val_main_v70_apply]
  refine Finset.sum_congr rfl fun t _ => ?_
  rw [← divided_apply, ← v_apply x b h t d]
  refine congrArg₂ (fun a c : EReal => a * c) (congrArg _ ?_) (congrArg _ ?_)
  · blk_ext [lidx_main_v70]
  · blk_ext [ridx_main_v70]

/-- The word of 1. -/
theorem ofBits_1 : Ideal.ofBits .f32 0x3F800000#32 = ((1 : ℝ) : EReal) := by
  simp [Ideal.ofBits, Ideal.ieee]
  try { rw [← EReal.coe_mul]; norm_num }

/-- The gating of a result. -/
theorem silu_apply (i : S8x2048x2048.Idx) : val_main_v73 (F := Ideal) x i
    = val_main_v5 (F := Ideal) x i * Ideal.logistic (val_main_v5 (F := Ideal) x i) := by
  rw [val_main_v73_apply, val_main_call2_v5_apply, val_main_call2_v4_apply, val_main_call2_cst_0_apply, val_main_call2_v3_apply,
    val_main_call2_v2_apply, val_main_call2_cst_apply, val_main_call2_v1_apply, val_main_call2_v0_apply]
  show _ * Ideal.div (Ideal.ofBits .f32 0x3F800000#32) (Ideal.ofBits .f32 0x3F800000#32 + Ideal.exp (-(val_main_v5 (F := Ideal) x i))) = _
  rw [ofBits_1]
  rfl

/-- The gates' columns of the array. -/
theorem z_apply (c : Fin 2048) : val_main_v5 (F := Ideal) x (ix3 b s c)
    = x (ix2 ⟨b.val * 2048 + s.val, by omega⟩ ⟨6144 + c.val, by omega⟩) := by
  rw [val_main_v5_apply, ← v1_apply x b s ⟨6144 + c.val, by omega⟩]
  exact congrArg _ (by blk_ext [idx_main_v5])

/-- The reference computes the layer. -/
theorem reference_value (hx : RealQK x) : val_main_v76 (F := Ideal) x = layer x := by
  funext i
  obtain ⟨R, C, rfl⟩ : ∃ (R : Fin 16384) (C : Fin 2048), i = ix2 R C := ⟨i 0, i 1, by idx_vars i⟩
  rw [val_main_v76_apply, show idx_main_v76 (ix2 R C) = ix3 ⟨R.val / 2048, by omega⟩ ⟨R.val % 2048, by omega⟩ C by blk_ext [idx_main_v76],
    val_main_v75_apply, val_main_v74_apply, val_main_v72_apply, val_main_v71_apply, silu_apply, z_apply,
    show idx_main_v71 (idx_main_v72 (ix3 ⟨R.val / 2048, by omega⟩ ⟨R.val % 2048, by omega⟩ C))
      = ix4 ⟨R.val / 2048, by omega⟩ ⟨C.val / 128, by omega⟩ ⟨R.val % 2048, by omega⟩ ⟨C.val % 128, by omega⟩ by
        blk_ext [idx_main_v71, idx_main_v72], attn_apply _ _ _ _ hx,
    show (ix2 ⟨R.val / 2048 * 2048 + R.val % 2048, by omega⟩ ⟨6144 + C.val, by omega⟩ : S16384x8192.Idx) = ix2 R ⟨6144 + C.val, by omega⟩ by
      blk_ext []]
  rfl

end Moba
end
-- ==== Proof.Finite.lean ====
/-
  The precondition: below infinity in absolute value, the queries and keys are real numbers.
-/
module

public import proofs.«01_k».proof.Proof.Layer
public import proofs.«01_k».proof.Pre_finite_qk
@[expose] public section

noncomputable section
namespace Moba
open Idealize.ShloMosaic Idealize.ShloMosaic.Tactic

/-- The side conditions of the precondition's operations. -/
theorem finite_facts : Cert.Pre_finite_qk.Facts :=
  ⟨by decide, by decide, by decide⟩

/-- An extended real below infinity in absolute value is a real number. -/
theorem real_of_abs_lt (a : EReal) (h : max a (-a) < ⊤) : ∃ v : ℝ, a = v := by
  have h1 : a ≠ ⊤ := ((le_max_left _ _).trans_lt h).ne
  have h2 : a ≠ ⊥ := fun e => by rw [e] at h; exact absurd h (by simp)
  exact ⟨a.toReal, (EReal.coe_toReal h1 h2).symm⟩

/-- The precondition makes the queries and keys real numbers. -/
theorem realQK_of_finite (x : Rows8) (h : @Cert.Pre_finite_qk.fn finite_facts Ideal _ x = fun _ => 1#1) : RealQK x := by
  intro r c hc
  have e := congrFun h (ix2 r (⟨c.val, hc⟩ : Fin 4096))
  unfold Cert.Pre_finite_qk.fn at e
  change Ideal.cmp .olt (max (extractStridedSlice Cert.Pre_finite_qk.S16384x4096 ![0, 0] x finite_facts.slices_S16384x8192_S16384x4096_0_0 (ix2 r (⟨c.val, hc⟩ : Fin 4096)))
    (-(extractStridedSlice Cert.Pre_finite_qk.S16384x4096 ![0, 0] x finite_facts.slices_S16384x8192_S16384x4096_0_0 (ix2 r (⟨c.val, hc⟩ : Fin 4096)))))
    (Ideal.ofBits .f32 0x7F800000#32) = 1#1 at e
  rw [extractStridedSlice_apply ![0, 0] x finite_facts.slices_S16384x8192_S16384x4096_0_0 (ix2 r (⟨c.val, hc⟩ : Fin 4096)) (ix2 r c)
    (fun a => match a with
      | ⟨0, _⟩ => (Nat.zero_add _).symm
      | ⟨1, _⟩ => (Nat.zero_add _).symm),
    show Ideal.ofBits .f32 0x7F800000#32 = ⊤ by simp [Ideal.ofBits, Ideal.ieee]] at e
  refine real_of_abs_lt _ ?_
  by_contra hn
  change BitVec.ofBool (decide _) = 1#1 at e
  rw [decide_eq_false hn] at e
  exact absurd e (by decide)

end Moba
end
-- ==== Proof.Norm.lean ====
/-
  The RMS norm of a row of 2048 elements and the product of two matrices, as the kernels write them.
-/
module

public import Idealize.ShloMosaic.Lib.Tactic.RunNames
public import Idealize.ShloMosaic.Lib.Pipeline.ReadBack
public import Idealize.ShloMosaic.Lib.Pipeline.ValueKit
public import Idealize.ShloMosaic.Lib.Pointwise
public import Idealize.ShloMosaic.Lib.MatmulPlain
@[expose] public section

noncomputable section
namespace Moba
open Idealize.ShloMosaic Idealize.ShloMosaic.TcCoe Idealize.ShloMosaic.Tactic

/-- One over the square root of a row's mean square, the constant added. -/
def scaleOf (y : Fin 2048 → EReal) : EReal :=
  Ideal.rsqrt (Ideal.div (∑ k, y k * y k) (Ideal.ofBits .f32 0x45000000#32) + Ideal.ofBits .f32 0x358637BD#32)

/-- The RMS norm of the row `y` with the gains `g`. -/
def normed (y g : Fin 2048 → EReal) (j : Fin 2048) : EReal := y j * scaleOf y * g j

/-- A column repeated along the rows. -/
theorem column_apply {n : ℕ} {α : Type} (y : (⟨2, ![n, 1]⟩ : Shape).Idx → α) (hb) (r : Fin n) (j : Fin 2048) :
    broadcastTo ⟨2, ![n, 2048]⟩ y hb (ix2 r j) = y (ix2 r 0) :=
  broadcastTo_apply _ _ _ _ fun a => match a with
    | ⟨0, _⟩ => by
      show r.val = if n = 1 then 0 else r.val
      have := r.isLt
      split <;> omega
    | ⟨1, _⟩ => rfl

/-- A list of `n` elements as a column. -/
theorem as_column {n : ℕ} {α : Type} (y : (⟨1, ![n]⟩ : Shape).Idx → α) (hs) (r : Fin n) :
    shapeCast ⟨2, ![n, 1]⟩ y hs (ix2 r 0) = y (ix1 r) :=
  shapeCast_apply _ _ _ _ (by
    rw [Shape.rowMajor_val_one, Shape.rowMajor_val_two]
    show r.val = r.val * 1 + 0
    omega)

/-- The kernels' RMS norm of `n` rows. -/
theorem norm_apply {n : ℕ} (x : FVec Ideal ⟨2, ![n, 2048]⟩ .f32) (g : FVec Ideal ⟨2, ![1, 2048]⟩ .f32) {hr hf ha hs hb hg}
    (r : Fin n) (j : Fin 2048) :
    mulf (mulf x (broadcastTo ⟨2, ![n, 2048]⟩
        (rsqrt (addf (divf (shapeCast ⟨2, ![n, 1]⟩ (multiReduction .add [1] ⟨1, ![n]⟩ (mulf x x) 0#32 hr hf ha) hs)
          (broadcast ⟨2, ![n, 1]⟩ (Scalar.ofBits .f32 0x45000000#32))) (broadcast ⟨2, ![n, 1]⟩ (Scalar.ofBits .f32 0x358637BD#32)))) hb))
      (broadcastTo ⟨2, ![n, 2048]⟩ g hg) (ix2 r j)
      = normed (fun k => x (ix2 r k)) (fun k => g (ix2 0 k)) j := by
  show x (ix2 r j) * _ * _ = _
  rw [column_apply]
  show x (ix2 r j) * Ideal.rsqrt (Ideal.div (shapeCast ⟨2, ![n, 1]⟩ _ hs (ix2 r 0)) _ + _) * _ = _
  rw [as_column]
  pointwise
  rfl

/-- An element of the product of two matrices. -/
theorem product_apply {m k n : ℕ} {φ₁ φ₂ : FTy} (A : FVec Ideal ⟨2, ![m, k]⟩ φ₁) (B : FVec Ideal ⟨2, ![k, n]⟩ φ₂) (r : Fin m) (c : Fin n) :
    matmul (DotDims.plain m k n) none A B (constant (F := Ideal) ⟨2, ![m, n]⟩ .f32 0#32) (ix2 r c)
      = ∑ d : Fin k, (A (ix2 r d) * B (ix2 d c) : EReal) := by
  refine (Ideal.matmul_plain_apply _ _ _ _ _ _).trans ?_
  exact (congrArg (· + _) (show _ = (0 : EReal) from Ideal.ofBits_zero_f32)).trans (zero_add _)

end Moba
end
-- ==== Proof.Rows.lean ====
/-
  The rows of a block, normalised 64 at a time into a buffer that the products read.
-/
module

public import proofs.«01_k».proof.Proof.Norm
@[expose] public section

noncomputable section
namespace Moba
open Idealize.ShloMosaic Idealize.ShloMosaic.TcCoe Idealize.ShloMosaic.Tactic
open Idealize.SL.Sem

/-- The place in an array of an element of one of its rectangles. -/
theorem rect_emb {m n a b o p : ℕ} (inb) (r : Fin a) (c : Fin b) (h0 : o + r.val < m) (h1 : p + c.val < n) :
    (Rect.unit (s := ⟨2, ![m, n]⟩) ![o, p] (⟨2, ![a, b]⟩ : Shape).size inb).emb (ix2 r c) = ix2 ⟨o + r.val, h0⟩ ⟨p + c.val, h1⟩ := by
  funext q
  refine Fin.ext ?_
  match q with
  | ⟨0, _⟩ => show o + 1 * r.val = o + r.val; omega
  | ⟨1, _⟩ => show p + 1 * c.val = p + c.val; omega

/-- A store of a rectangle that agrees with `G`, after stores that do. -/
theorem pieces_step {e : EltTy} {m n a b : ℕ} {G : (⟨2, ![m, n]⟩ : Shape).Idx → Elt Ideal e} {o p : ℕ} {inb}
    {w : (⟨2, ![a, b]⟩ : Shape).Idx → Elt Ideal e} {L : List (View.Piece (Elt Ideal) ⟨2, ![m, n]⟩ e)}
    (hw : ∀ (r : Fin a) (c : Fin b) (h0 : o + r.val < m) (h1 : p + c.val < n), w (ix2 r c) = G (ix2 ⟨o + r.val, h0⟩ ⟨p + c.val, h1⟩))
    (hL : View.PiecesOf (Val := Elt Ideal) G L) :
    View.PiecesOf (Val := Elt Ideal) G (⟨Rect.unit (s := ⟨2, ![m, n]⟩) ![o, p] (⟨2, ![a, b]⟩ : Shape).size inb, w⟩ :: L) := by
  refine ⟨fun i => ?_, hL⟩
  have h0 : o + a ≤ m := inb 0
  have h1 : p + b ≤ n := inb 1
  have hi0 : (i 0).val < a := (i 0).isLt
  have hi1 : (i 1).val < b := (i 1).isLt
  obtain ⟨r, c, rfl⟩ : ∃ (r : Fin a) (c : Fin b), i = ix2 r c := ⟨⟨_, hi0⟩, ⟨_, hi1⟩, by
    funext q
    match q with
    | ⟨0, _⟩ => rfl
    | ⟨1, _⟩ => rfl⟩
  exact (hw r c (by omega) (by omega)).trans (congrArg G (rect_emb inb r c (by omega) (by omega))).symm

/-- A load of a rectangle of a buffer that holds `x`. -/
theorem load_apply {e : EltTy} {m n a b o p : ℕ} {sig : RefSig} {κ : Kind} {sp : Space} {mr : Memref sig κ sp ⟨2, ![m, n]⟩ e} (hm : mr.IsWhole)
    (x : Vec Ideal ⟨2, ![m, n]⟩ e) (inb) (r : Fin a) (c : Fin b) (h0 : o + r.val < m) (h1 : p + c.val < n) :
    View.readAt (Elt Ideal) mr.view (Rect.unit (s := ⟨2, ![m, n]⟩) ![o, p] (⟨2, ![a, b]⟩ : Shape).size inb).toLoadRect (hm.unread x) (ix2 r c)
      = x (ix2 ⟨o + r.val, h0⟩ ⟨p + c.val, h1⟩) := by
  rw [View.readAt_apply, hm.read_unread]
  exact congrArg x (rect_emb inb r c h0 h1)

/-- A load of all of a buffer that holds `x`. -/
theorem load_whole {e : EltTy} {m n : ℕ} {sig : RefSig} {κ : Kind} {sp : Space} {mr : Memref sig κ sp ⟨2, ![m, n]⟩ e} (hm : mr.IsWhole)
    (x : Vec Ideal ⟨2, ![m, n]⟩ e) (inb) :
    View.readAt (Elt Ideal) mr.view (Rect.unit (s := ⟨2, ![m, n]⟩) ![0, 0] (⟨2, ![m, n]⟩ : Shape).size inb).toLoadRect (hm.unread x) = x := by
  funext i
  obtain ⟨r, c, rfl⟩ : ∃ (r : Fin m) (c : Fin n), i = ix2 r c := ⟨i 0, i 1, by
    funext q
    match q with
    | ⟨0, _⟩ => rfl
    | ⟨1, _⟩ => rfl⟩
  refine (load_apply hm x inb r c (by omega) (by omega)).trans (congrArg x ?_)
  funext q
  refine Fin.ext ?_
  match q with
  | ⟨0, _⟩ => show 0 + r.val = r.val; omega
  | ⟨1, _⟩ => show 0 + c.val = c.val; omega

/-- A load of all of a buffer, after stores of rectangles that cover it and agree with `G`. -/
theorem readback_whole {e : EltTy} {m n : ℕ} {sig : RefSig} {κ : Kind} {sp : Space} {v : View sig κ sp ⟨2, ![m, n]⟩ e}
    {G : (⟨2, ![m, n]⟩ : Shape).Idx → Elt Ideal e} {L : List (View.Piece (Elt Ideal) ⟨2, ![m, n]⟩ e)} {inb}
    (hL : View.PiecesOf (Val := Elt Ideal) G L) (hc : ∀ y : (⟨2, ![m, n]⟩ : Shape).Idx, ∃ p ∈ L, y ∈ p.1.set) :
    v.readCov L (Rect.unit (s := ⟨2, ![m, n]⟩) ![0, 0] (⟨2, ![m, n]⟩ : Shape).size inb).toLoadRect = G := by
  rw [View.readCov_eq_canon']
  funext i
  obtain ⟨r, c, rfl⟩ : ∃ (r : Fin m) (c : Fin n), i = ix2 r c := ⟨i 0, i 1, by
    funext q
    match q with
    | ⟨0, _⟩ => rfl
    | ⟨1, _⟩ => rfl⟩
  refine (View.canon_apply_of_pieces G L hL.mem _ (hc _)).trans (congrArg G ?_)
  refine (rect_emb inb r c (by omega) (by omega)).trans ?_
  funext q
  refine Fin.ext ?_
  match q with
  | ⟨0, _⟩ => show 0 + r.val = r.val; omega
  | ⟨1, _⟩ => show 0 + c.val = c.val; omega

/-- The RMS norm of each row of a block. -/
def normBlock {n : ℕ} (x : Vec Ideal ⟨2, ![n, 2048]⟩ .f32) (g : Vec Ideal ⟨2, ![1, 2048]⟩ .f32) (i : (⟨2, ![n, 2048]⟩ : Shape).Idx) : EReal :=
  normed (fun k => x (ix2 (i 0) k)) (fun k => g (ix2 0 k)) (i 1)

/-- The RMS norm of the 1024 rows of the `q`th part of an array. -/
def normRows (x : Vec Ideal ⟨2, ![16384, 2048]⟩ .f32) (g : Vec Ideal ⟨2, ![1, 2048]⟩ .f32) (q : Fin 16) (i : (⟨2, ![1024, 2048]⟩ : Shape).Idx) : EReal :=
  normed (fun k => x (ix2 ⟨q.val * 1024 + (i 0).val, by have : (i 0).val < 1024 := (i 0).isLt; omega⟩ k)) (fun k => g (ix2 0 k)) (i 1)

/-- The kernels' norm of the 64 rows from `o` on, cast and stored. -/
theorem norm_piece {o : ℕ} {x : Vec Ideal ⟨2, ![1024, 2048]⟩ .f32} {g : Vec Ideal ⟨2, ![1, 2048]⟩ .f32}
    {X : FVec Ideal ⟨2, ![64, 2048]⟩ .f32} {W : FVec Ideal ⟨2, ![1, 2048]⟩ .f32}
    (hX : ∀ (r : Fin 64) (k : Fin 2048) (h0 : o + r.val < 1024), X (ix2 r k) = x (ix2 ⟨o + r.val, h0⟩ k))
    (hW : W = g) {hr hf ha hs hb hg hw hc} (r : Fin 64) (j : Fin 2048) (h0 : o + r.val < 1024) (h1 : 0 + j.val < 2048) :
    shapeCast ⟨2, ![64, 2048]⟩ (truncf .bf16 (mulf (mulf X (broadcastTo ⟨2, ![64, 2048]⟩
        (rsqrt (addf (divf (shapeCast ⟨2, ![64, 1]⟩ (multiReduction .add [1] ⟨1, ![64]⟩ (mulf X X) 0#32 hr hf ha) hs)
          (broadcast ⟨2, ![64, 1]⟩ (Scalar.ofBits .f32 0x45000000#32))) (broadcast ⟨2, ![64, 1]⟩ (Scalar.ofBits .f32 0x358637BD#32)))) hb))
      (broadcastTo ⟨2, ![64, 2048]⟩ W hg)) hw) hc (ix2 r j)
      = normBlock x g (ix2 ⟨o + r.val, h0⟩ ⟨0 + j.val, h1⟩) := by
  subst hW
  refine (shapeCast_apply _ _ _ (ix2 r j) rfl).trans ?_
  refine (norm_apply X W r j).trans ?_
  unfold normBlock
  have hj : (⟨0 + j.val, h1⟩ : Fin 2048) = j := Fin.ext (Nat.zero_add _)
  show normed _ _ j = normed (fun k => x (ix2 ⟨o + r.val, h0⟩ k)) _ (⟨0 + j.val, h1⟩ : Fin 2048)
  rw [hj, funext fun k => hX r k h0]

/-- Rows loaded from a buffer that holds a block. -/
theorem load_rows {o : ℕ} {sig : RefSig} {κ : Kind} {sp : Space} {mr : Memref sig κ sp ⟨2, ![1024, 2048]⟩ .f32} (hm : mr.IsWhole)
    (x : Vec Ideal ⟨2, ![1024, 2048]⟩ .f32) (inb) (r : Fin 64) (k : Fin 2048) (h0 : o + r.val < 1024) :
    View.readAt (Elt Ideal) mr.view (Rect.unit (s := ⟨2, ![1024, 2048]⟩) ![o, 0] (⟨2, ![64, 2048]⟩ : Shape).size inb).toLoadRect (hm.unread x) (ix2 r k)
      = x (ix2 ⟨o + r.val, h0⟩ k) :=
  (load_apply hm x inb r k h0 (by omega)).trans (congrArg x (congrArg _ (Fin.ext (Nat.zero_add _))))

/-- The constant one of the references. -/
theorem one_eq : Ideal.ofBits .f32 0x3F800000#32 = ((1 : ℝ) : EReal) := by
  simp [Ideal.ofBits, Ideal.ieee]
  try { rw [← EReal.coe_mul]; norm_num }

/-- The references' quotient is the logistic function. -/
theorem gate_eq (v : EReal) :
    Ideal.div (Ideal.ofBits .f32 0x3F800000#32) (Ideal.ofBits .f32 0x3F800000#32 + Ideal.exp (-v)) = Ideal.logistic v := by
  rw [one_eq]
  rfl

end Moba
end
-- ==== Proof.ConvIn.lean ====
/-
  The convolution layer's norm, projection and gates: what the kernel leaves in its two results, and the reference.
-/
module

public import proofs.«01_k».proof.Proof.Rows
public import proofs.«01_k».proof.Proof.Gen.ConvInIdeal.Value
public import proofs.«01_k».proof.Proof.Gen.ConvInReferenceIdeal.Read
@[expose] public section

noncomputable section
namespace Moba.ConvIn
open Idealize.ShloMosaic Idealize.ShloMosaic.TcCoe Idealize.ShloMosaic.Tactic
open Idealize.SL.Sem

/-- Row `r` of the norm, times column `j` of the weights. -/
def proj (x : Vec Ideal ⟨2, ![16384, 2048]⟩ .f32) (g : Vec Ideal ⟨2, ![1, 2048]⟩ .f32) (w : Vec Ideal ⟨2, ![2048, 6144]⟩ .bf16)
    (r : Fin 16384) (j : Fin 6144) : EReal :=
  ∑ k : Fin 2048, normed (fun k => x (ix2 r k)) (fun k => g (ix2 0 k)) k * w (ix2 k j)

/-- The first result: the values times the logistic function of their gates, a bias added to both. -/
def glu (x : Vec Ideal ⟨2, ![16384, 2048]⟩ .f32) (g : Vec Ideal ⟨2, ![1, 2048]⟩ .f32) (w : Vec Ideal ⟨2, ![2048, 6144]⟩ .bf16)
    (b : Vec Ideal ⟨2, ![1, 4096]⟩ .f32) (i : (⟨2, ![16384, 2048]⟩ : Shape).Idx) : EReal :=
  have h : (i 1).val < 2048 := (i 1).isLt
  (proj x g w (i 0) ⟨(i 1).val, by omega⟩ + b (ix2 0 ⟨(i 1).val, by omega⟩))
    * Ideal.logistic (proj x g w (i 0) ⟨2048 + (i 1).val, by omega⟩ + b (ix2 0 ⟨2048 + (i 1).val, by omega⟩))

/-- The second result: the third part of the projection times its own logistic function. -/
def silu (x : Vec Ideal ⟨2, ![16384, 2048]⟩ .f32) (g : Vec Ideal ⟨2, ![1, 2048]⟩ .f32) (w : Vec Ideal ⟨2, ![2048, 6144]⟩ .bf16)
    (i : (⟨2, ![16384, 2048]⟩ : Shape).Idx) : EReal :=
  have h : (i 1).val < 2048 := (i 1).isLt
  proj x g w (i 0) ⟨4096 + (i 1).val, by omega⟩ * Ideal.logistic (proj x g w (i 0) ⟨4096 + (i 1).val, by omega⟩)

section Kernel
open Cert.ConvInIdeal Cert.ConvInIdeal.Gen

/-- A block of the first result, from the rows' norms and blocks of the weights and the bias. -/
def gluBlock (n : Vec Ideal S1024x2048 .bf16) (wa : Vec Ideal S2048x512 .bf16) (ba : Vec Ideal S1x512 .f32) (wg : Vec Ideal S2048x512 .bf16)
    (bg : Vec Ideal S1x512 .f32) (i : S1024x512.Idx) : EReal :=
  ((∑ k : Fin 2048, (n (ix2 (i 0) k) * wa (ix2 k (i 1)) : EReal)) + ba (ix2 0 (i 1)))
    * Ideal.logistic ((∑ k : Fin 2048, (n (ix2 (i 0) k) * wg (ix2 k (i 1)) : EReal)) + bg (ix2 0 (i 1)))

/-- A block of the second result. -/
def siluBlock (n : Vec Ideal S1024x2048 .bf16) (wz : Vec Ideal S2048x512 .bf16) (i : S1024x512.Idx) : EReal :=
  (∑ k : Fin 2048, (n (ix2 (i 0) k) * wz (ix2 k (i 1)) : EReal)) * Ideal.logistic (∑ k : Fin 2048, (n (ix2 (i 0) k) * wz (ix2 k (i 1)) : EReal))

/-- A row repeated down the columns. -/
theorem bias_apply (b : Vec Ideal S1x512 .f32) (hb) (r : Fin 1024) (j : Fin 512) : broadcastTo S1024x512 b hb (ix2 r j) = b (ix2 0 j) := by
  pointwise

/-- The first gated block, as the kernel computes it. -/
theorem glu_apply (n : Vec Ideal S1024x2048 .bf16) (wa : Vec Ideal S2048x512 .bf16) (ba : Vec Ideal S1x512 .f32) (wg : Vec Ideal S2048x512 .bf16)
    (bg : Vec Ideal S1x512 .f32) : k0_pay2 (F := Ideal) n wa ba wg bg = gluBlock n wa ba wg bg := by
  funext i
  obtain ⟨r, j, rfl⟩ : ∃ (r : Fin 1024) (j : Fin 512), i = ix2 r j := ⟨i 0, i 1, by idx_vars i⟩
  unfold k0_pay2
  have ea := product_apply (φ₁ := .bf16) (φ₂ := .bf16) n wa r j
  have eg := product_apply (φ₁ := .bf16) (φ₂ := .bf16) n wg r j
  refine congrArg₂ (fun u v : EReal => u * v) (congrArg₂ (fun u v : EReal => u + v) ea (bias_apply ba _ r j))
    (congrArg Ideal.logistic (congrArg₂ (fun u v : EReal => u + v) eg (bias_apply bg _ r j)))

/-- The second gated block, as the kernel computes it. -/
theorem silu_apply (n : Vec Ideal S1024x2048 .bf16) (wz : Vec Ideal S2048x512 .bf16) : k0_pay3 (F := Ideal) n wz = siluBlock n wz := by
  funext i
  obtain ⟨r, j, rfl⟩ : ∃ (r : Fin 1024) (j : Fin 512), i = ix2 r j := ⟨i 0, i 1, by idx_vars i⟩
  unfold k0_pay3
  have ez := product_apply (φ₁ := .bf16) (φ₂ := .bf16) n wz r j
  exact congrArg₂ (fun u v : EReal => u * v) ez (congrArg Ideal.logistic ez)

section Point

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S2048x512 .bf16) (harg6 : arg6.IsWhole)
  (arg7 : Memref sig .tc .vmem S1x512 .f32) (harg7 : arg7.IsWhole) (arg8 : Memref sig .tc .vmem S1x512 .f32) (harg8 : arg8.IsWhole)
  (arg9 : Memref sig .tc .vmem S1024x512 .bf16) (harg9 : arg9.IsWhole) (arg10 : Memref sig .tc .vmem S1024x512 .bf16) (harg10 : arg10.IsWhole)
  (arg11 : Memref sig .tc .vmem S1024x2048 .bf16) (harg11 : arg11.IsWhole)
  (x0 : Vec Ideal S1024x2048 .f32) (x1 : Vec Ideal S1x2048 .f32) (x2 x3 x4 : Vec Ideal S2048x512 .bf16) (x5 x6 : Vec Ideal S1x512 .f32)

section
attribute [local irreducible] shapeCast mulf multiReduction addf divf rsqrt broadcastTo truncf
set_option maxRecDepth 16384

/-- At the first point of each block of rows, the sixteen stores leave the norm of the rows. -/
theorem norm_pieces (hc0 : cond0_0 i) (hc1 : ¬cond0_1 i) : View.PiecesOf (Val := Elt Ideal) (e := .bf16) (normBlock x0 x1)
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.2.1 := by
  iterate 16 refine pieces_step ?_ ?_; rotate_left
  · trivial
  all_goals exact norm_piece (load_rows harg2 x0 _) (load_whole harg3 x1 _)

end

include i harg4 harg5 harg6 harg7 harg8 harg9 harg10 harg11 x2 x3 x4 x5 x6 in
/-- They are read back as the norm of the rows. -/
theorem norm_read (hc0 : cond0_0 i) (hc1 : ¬cond0_1 i) : kernelRun0_A.sl.v294 (F := Ideal) c arg2 harg2 arg3 harg3 arg11 x0 x1 = normBlock x0 x1 :=
  readback_whole (norm_pieces c i arg2 harg2 arg3 harg3 arg4 harg4 arg5 harg5 arg6 harg6 arg7 harg7 arg8 harg8 arg9 harg9 arg10 harg10 arg11 harg11 x0 x1 x2 x3 x4 x5 x6 hc0 hc1)
    (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6)

/-- The first point of a block of rows leaves the first gate of its own norms. -/
theorem first_glu (hc0 : cond0_0 i) (hc1 : ¬cond0_1 i) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 = gluBlock (normBlock x0 x1) x2 x5 x3 x6 := by
  unfold out0_A_7
  rw [View.read_writes_junk_eq_canon]
  refine (View.canon_cons_unit_lit _ _ _ (by decide)).trans ?_
  refine (glu_apply _ _ _ _ _).trans ?_
  rw [norm_read c i arg2 harg2 arg3 harg3 arg4 harg4 arg5 harg5 arg6 harg6 arg7 harg7 arg8 harg8 arg9 harg9 arg10 harg10 arg11 harg11 x0 x1 x2 x3 x4 x5 x6 hc0 hc1, load_whole harg4, load_whole harg5, load_whole harg7, load_whole harg8]

/-- The first point of a block of rows leaves the second gate of its own norms. -/
theorem first_silu (hc0 : cond0_0 i) (hc1 : ¬cond0_1 i) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 = siluBlock (normBlock x0 x1) x4 := by
  unfold out0_A_8
  rw [View.read_writes_junk_eq_canon]
  refine (View.canon_cons_unit_lit _ _ _ (by decide)).trans ?_
  refine (silu_apply _ _).trans ?_
  rw [norm_read c i arg2 harg2 arg3 harg3 arg4 harg4 arg5 harg5 arg6 harg6 arg7 harg7 arg8 harg8 arg9 harg9 arg10 harg10 arg11 harg11 x0 x1 x2 x3 x4 x5 x6 hc0 hc1, load_whole harg6]

/-- The first point of a block of rows leaves the norms of its rows in the buffer. -/
theorem first_norm (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 = normBlock x0 x1 := by
  unfold sout0_A_0
  rw [View.read_writes_junk_eq_canon]
  funext y
  exact View.canon_apply_of_pieces _ _ (View.PiecesOf.mem (norm_pieces c i arg2 harg2 arg3 harg3 arg4 harg4 arg5 harg5 arg6 harg6 arg7 harg7 arg8 harg8 arg9 harg9 arg10 harg10 arg11 harg11 x0 x1 x2 x3 x4 x5 x6 hc0 hc1)) y
    (scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 y)

/-- A later point leaves the first gate of the norms it finds. -/
theorem later_glu (hc0 : ¬cond0_0 i) (hc1 : cond0_1 i) (n : Vec Ideal S1024x2048 .bf16) :
    out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 n = gluBlock n x2 x5 x3 x6 := by
  unfold out0_B_7
  rw [View.read_writes_junk_eq_canon]
  refine (View.canon_cons_unit_lit _ _ _ (by decide)).trans ?_
  refine (glu_apply _ _ _ _ _).trans ?_
  rw [load_whole harg11, load_whole harg4, load_whole harg5, load_whole harg7, load_whole harg8]

/-- A later point leaves the second gate of the norms it finds. -/
theorem later_silu (hc0 : ¬cond0_0 i) (hc1 : cond0_1 i) (n : Vec Ideal S1024x2048 .bf16) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 n = siluBlock n x4 := by
  unfold out0_B_8
  rw [View.read_writes_junk_eq_canon]
  refine (View.canon_cons_unit_lit _ _ _ (by decide)).trans ?_
  refine (silu_apply _ _).trans ?_
  rw [load_whole harg11, load_whole harg6]

end Point

variable (m : (ℓ : Loc nD τ sig) → Buf (Elt Ideal) ℓ)

/-- The windows' block indices. -/
theorem indices : ∀ t : Fin grid0.N,
    win0_0.index t = ![t.val / 4, 0] ∧ win0_1.index t = ![0, 0] ∧ win0_2.index t = ![0, t.val % 4] ∧ win0_3.index t = ![0, 4 + t.val % 4]
    ∧ win0_4.index t = ![0, 8 + t.val % 4] ∧ win0_5.index t = ![0, t.val % 4] ∧ win0_6.index t = ![0, 4 + t.val % 4]
    ∧ win0_7.index t = ![t.val / 4, t.val % 4] ∧ win0_8.index t = ![t.val / 4, t.val % 4] := by
  decide +kernel

/-- There are 64 points. -/
theorem point_lt (t : Fin cfg0.N) : t.val < 64 := t.isLt

/-- The block of rows of a point. -/
def part (t : Fin cfg0.N) : Fin 16 := ⟨t.val / 4, by have := point_lt t; omega⟩

/-- The norm of a point's block of rows. -/
theorem normBlock_eq (c : Dev nD) (t : Fin cfg0.N) : normBlock (iblk (F := Ideal) m c 0 t) (iblk (F := Ideal) m c 1 t)
    = normRows (m ((c : Thread nD τ).loc main_arg0)) (m ((c : Thread nD τ).loc main_arg1)) (part t) := by
  have ht := point_lt t
  funext i
  obtain ⟨r, j, rfl⟩ : ∃ (r : Fin 1024) (j : Fin 2048), i = ix2 r j := ⟨i 0, i 1, by idx_vars i⟩
  have e0 : ∀ k : Fin 2048, iblk (F := Ideal) m c 0 t (ix2 r k) = m ((c : Thread nD τ).loc main_arg0) (ix2 ⟨t.val / 4 * 1024 + r.val, by omega⟩ k) :=
    fun k => by blk_ext [iblk, V_main_arg0, indices t]
  have e1 : ∀ j : Fin 2048, iblk (F := Ideal) m c 1 t (ix2 0 j) = m ((c : Thread nD τ).loc main_arg1) (ix2 0 j) :=
    fun j => by blk_ext [iblk, V_main_arg1, indices t]
  exact congrArg₂ (fun y g => normed y g j) (funext e0) (funext e1)

/-- What a point leaves in the two results' staging buffers and in the buffer of norms. -/
def left (c : Dev nD) (t : Fin cfg0.N) : Vec Ideal S1024x512 .bf16 × Vec Ideal S1024x512 .bf16 × Vec Ideal S1024x2048 .bf16 :=
  (gluBlock (normRows (m ((c : Thread nD τ).loc main_arg0)) (m ((c : Thread nD τ).loc main_arg1)) (part t))
      (iblk (F := Ideal) m c 2 t) (iblk (F := Ideal) m c 5 t) (iblk (F := Ideal) m c 3 t) (iblk (F := Ideal) m c 6 t),
    siluBlock (normRows (m ((c : Thread nD τ).loc main_arg0)) (m ((c : Thread nD τ).loc main_arg1)) (part t)) (iblk (F := Ideal) m c 4 t),
    normRows (m ((c : Thread nD τ).loc main_arg0)) (m ((c : Thread nD τ).loc main_arg1)) (part t))

/-- One point, after a point that left the norms of the same rows (or any, at the first point of a block of rows). -/
theorem step (c : Dev nD) (t : Fin cfg0.N) (acc : Vec Ideal S1024x512 .bf16 × Vec Ideal S1024x512 .bf16 × Vec Ideal S1024x2048 .bf16)
    (h : t.val % 4 ≠ 0 → acc.2.2 = normRows (m ((c : Thread nD τ).loc main_arg0)) (m ((c : Thread nD τ).loc main_arg1)) (part t)) :
    Value.stAt0 (F := Ideal) m c t.val t.isLt acc = left m c t := by
  by_cases h0 : t.val % 4 = 0
  · rw [Value.stAt0_A m c t acc h0 (by omega), first_glu, first_silu, first_norm, normBlock_eq]
    rfl
  · rw [Value.stAt0_B m c t acc h0 (by omega), later_glu, later_silu, h h0]
    rfl

/-- What every point leaves. -/
theorem left_at (c : Dev nD) : ∀ (n : ℕ) (hn : n < cfg0.N), outsAt0 (F := Ideal) m c n hn = left m c ⟨n, hn⟩
  | 0, hn => (Value.outsAt0_zero m c hn).trans (step m c ⟨0, hn⟩ _ fun h => absurd rfl h)
  | n + 1, hn => (Value.outsAt0_succ m c n hn).trans (step m c ⟨n + 1, hn⟩ _ fun h => by
      rw [left_at c n (Nat.lt_of_succ_lt hn)]
      refine congrArg (normRows _ _) (Fin.ext ?_)
      show n / 4 = (n + 1) / 4
      change (n + 1) % 4 ≠ 0 at h
      omega)

/-- The first result after the run. -/
theorem kernel_glu (c : Dev nD) :
    (dats (F := Ideal) m 0 c).arrAt 7 cfg0.N = glu (m ((c : Thread nD τ).loc main_arg0)) (m ((c : Thread nD τ).loc main_arg1))
      (m ((c : Thread nD τ).loc main_arg2)) (m ((c : Thread nD τ).loc main_arg3)) := by
  refine (dats (F := Ideal) m 0 c).arrAt_eq_of_covers 7 _ (by decide +kernel) fun t hf y => ?_
  have ht := point_lt t
  blk_simp
  rw [after0_7, left_at]
  obtain ⟨r, d, rfl⟩ : ∃ (r : Fin 1024) (d : Fin 512), y = ix2 r d := ⟨y 0, y 1, by idx_vars y⟩
  have e2 : ∀ k : Fin 2048, iblk (F := Ideal) m c 2 t (ix2 k d) = m ((c : Thread nD τ).loc main_arg2) (ix2 k ⟨t.val % 4 * 512 + d.val, by omega⟩) :=
    fun k => by blk_ext [iblk, V_main_arg2, indices t]
  have e3 : ∀ k : Fin 2048, iblk (F := Ideal) m c 3 t (ix2 k d) = m ((c : Thread nD τ).loc main_arg2) (ix2 k ⟨2048 + (t.val % 4 * 512 + d.val), by omega⟩) :=
    fun k => by blk_ext [iblk, V_main_arg2, indices t]
  have e5 : iblk (F := Ideal) m c 5 t (ix2 0 d) = m ((c : Thread nD τ).loc main_arg3) (ix2 0 ⟨t.val % 4 * 512 + d.val, by omega⟩) := by
    blk_ext [iblk, V_main_arg3, indices t]
  have e6 : iblk (F := Ideal) m c 6 t (ix2 0 d) = m ((c : Thread nD τ).loc main_arg3) (ix2 0 ⟨2048 + (t.val % 4 * 512 + d.val), by omega⟩) := by
    blk_ext [iblk, V_main_arg3, indices t]
  refine Eq.trans (b := glu (m ((c : Thread nD τ).loc main_arg0)) (m ((c : Thread nD τ).loc main_arg1))
      (m ((c : Thread nD τ).loc main_arg2)) (m ((c : Thread nD τ).loc main_arg3))
        (ix2 ⟨t.val / 4 * 1024 + r.val, by omega⟩ ⟨t.val % 4 * 512 + d.val, by omega⟩)) ?_ (congrArg (glu _ _ _ _) ?_)
  · show gluBlock _ _ _ _ _ (ix2 r d) = _
    show ((∑ k : Fin 2048, (normRows _ _ (part t) (ix2 r k) * iblk (F := Ideal) m c 2 t (ix2 k d) : EReal)) + iblk (F := Ideal) m c 5 t (ix2 0 d))
      * Ideal.logistic ((∑ k : Fin 2048, (normRows _ _ (part t) (ix2 r k) * iblk (F := Ideal) m c 3 t (ix2 k d) : EReal)) + iblk (F := Ideal) m c 6 t (ix2 0 d)) = _
    simp only [e2, e3, e5, e6]
    rfl
  · blk_ext [indices t]

/-- The second result after the run. -/
theorem kernel_silu (c : Dev nD) :
    (dats (F := Ideal) m 0 c).arrAt 8 cfg0.N = silu (m ((c : Thread nD τ).loc main_arg0)) (m ((c : Thread nD τ).loc main_arg1))
      (m ((c : Thread nD τ).loc main_arg2)) := by
  refine (dats (F := Ideal) m 0 c).arrAt_eq_of_covers 8 _ (by decide +kernel) fun t hf y => ?_
  have ht := point_lt t
  blk_simp
  rw [after0_8, left_at]
  obtain ⟨r, d, rfl⟩ : ∃ (r : Fin 1024) (d : Fin 512), y = ix2 r d := ⟨y 0, y 1, by idx_vars y⟩
  have e4 : ∀ k : Fin 2048, iblk (F := Ideal) m c 4 t (ix2 k d) = m ((c : Thread nD τ).loc main_arg2) (ix2 k ⟨4096 + (t.val % 4 * 512 + d.val), by omega⟩) :=
    fun k => by blk_ext [iblk, V_main_arg2, indices t]
  refine Eq.trans (b := silu (m ((c : Thread nD τ).loc main_arg0)) (m ((c : Thread nD τ).loc main_arg1))
      (m ((c : Thread nD τ).loc main_arg2)) (ix2 ⟨t.val / 4 * 1024 + r.val, by omega⟩ ⟨t.val % 4 * 512 + d.val, by omega⟩)) ?_ (congrArg (silu _ _ _) ?_)
  · show siluBlock _ _ (ix2 r d) = _
    show (∑ k : Fin 2048, (normRows _ _ (part t) (ix2 r k) * iblk (F := Ideal) m c 4 t (ix2 k d) : EReal))
      * Ideal.logistic (∑ k : Fin 2048, (normRows _ _ (part t) (ix2 r k) * iblk (F := Ideal) m c 4 t (ix2 k d) : EReal)) = _
    simp only [e4]
    rfl
  · blk_ext [indices t]

end Kernel

section Reference
open Cert.ConvInReferenceIdeal Cert.ConvInReferenceIdeal.Read
variable (x : Vec Ideal S16384x2048 .f32) (g : Vec Ideal S1x2048 .f32) (w : Vec Ideal S2048x6144 .bf16) (b : Vec Ideal S1x4096 .f32)

/-- The reference's norm of a row. -/
theorem norm_eq (r : Fin 16384) (k : Fin 2048) :
    val_main_v11 (F := Ideal) x g (ix2 r k) = normed (fun k => x (ix2 r k)) (fun k => g (ix2 0 k)) k := by
  rw [val_main_v11_apply, val_main_v10_apply, val_main_v9_apply, val_main_v8_apply, val_main_v7_apply, val_main_v6_apply, val_main_v5_apply,
    val_main_cst_1_apply, val_main_v4_apply, val_main_v3_apply, val_main_cst_0_apply, val_main_v2_apply, val_main_v1_apply, val_main_cst_apply,
    show idx_main_v10 (ix2 r k) = ix2 0 k by blk_ext [idx_main_v10]]
  unfold normed scaleOf
  refine congrArg (fun v : EReal => x (ix2 r k) * Ideal.rsqrt (Ideal.div v (Ideal.ofBits .f32 0x45000000#32) + Ideal.ofBits .f32 0x358637BD#32)
    * g (ix2 0 k)) ?_
  refine (congrArg₂ (fun u v : EReal => u + v) Ideal.ofBits_zero_f32 (Finset.sum_congr rfl fun l _ => ?_)).trans (zero_add _)
  rw [val_main_v0_apply, show idx_main_v1 (idx_main_v2 (idx_main_v8 (ix2 r k))) l = ix2 r l by
    blk_ext [idx_main_v1, idx_main_v2, idx_main_v8]]
  rfl

/-- The reference's projection. -/
theorem proj_eq (r : Fin 16384) (j : Fin 6144) : val_main_v13 (F := Ideal) x g w (ix2 r j) = proj x g w r j := by
  rw [val_main_v13_apply]
  refine Finset.sum_congr rfl fun k _ => ?_
  rw [show lidx_main_v13 (ix2 r j) k = ix2 r k by blk_ext [lidx_main_v13], show ridx_main_v13 (ix2 r j) k = ix2 k j by blk_ext [ridx_main_v13],
    norm_eq, val_main_v12_apply]
  rfl

/-- The reference's first part of the projection with its bias. -/
theorem biased_eq (r : Fin 16384) (j : Fin 4096) (h : j.val < 6144) :
    val_main_v16 (F := Ideal) x g w b (ix2 r j) = proj x g w r ⟨j.val, h⟩ + b (ix2 0 j) := by
  rw [val_main_v16_apply, val_main_v15_apply, val_main_v14_apply, show idx_main_v14 (ix2 r j) = ix2 r ⟨j.val, h⟩ by blk_ext [idx_main_v14],
    show idx_main_v15 (ix2 r j) = ix2 0 j by blk_ext [idx_main_v15], proj_eq]
  rfl

/-- The reference computes the same first result. -/
theorem reference_glu : val_main_v26 (F := Ideal) x g w b = glu x g w b := by
  funext i
  obtain ⟨r, j, rfl⟩ : ∃ (r : Fin 16384) (j : Fin 2048), i = ix2 r j := ⟨i 0, i 1, by idx_vars i⟩
  rw [val_main_v26_apply, val_main_v25_apply, val_main_v24_apply, val_main_v23_apply, val_main_cst_3_apply, val_main_v22_apply,
    val_main_v21_apply, val_main_cst_2_apply, val_main_v20_apply, val_main_v19_apply, val_main_v18_apply, val_main_v17_apply,
    show idx_main_v17 (ix2 r j) = ix2 r ⟨j.val, by omega⟩ by blk_ext [idx_main_v17],
    show idx_main_v18 (ix2 r j) = ix2 r ⟨2048 + j.val, by omega⟩ by blk_ext [idx_main_v18], biased_eq x g w b r _ (by omega),
    biased_eq x g w b r _ (by show 2048 + j.val < 6144; omega)]
  exact congrArg (fun v : EReal => (proj x g w r ⟨j.val, by omega⟩ + b (ix2 0 ⟨j.val, by omega⟩)) * v) (gate_eq _)

/-- The reference computes the same second result. -/
theorem reference_silu : val_main_v29 (F := Ideal) x g w = silu x g w := by
  funext i
  obtain ⟨r, j, rfl⟩ : ∃ (r : Fin 16384) (j : Fin 2048), i = ix2 r j := ⟨i 0, i 1, by idx_vars i⟩
  rw [val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply,
    val_main_v27_apply, show idx_main_v27 (ix2 r j) = ix2 r ⟨4096 + j.val, by omega⟩ by blk_ext [idx_main_v27], proj_eq]
  exact congrArg (fun v : EReal => proj x g w r ⟨4096 + j.val, by omega⟩ * v) (gate_eq _)

end Reference
end Moba.ConvIn
end
-- ==== Proof.AttnIn.lean ====
/-
  The attention layer's norm, projection and rotary embedding: what the kernel leaves in its result, and the reference.
-/
module

public import proofs.«01_k».proof.Proof.ConvIn
public import proofs.«01_k».proof.Proof.Gen.AttnInIdeal.Value
public import proofs.«01_k».proof.Proof.Gen.AttnInReferenceIdeal.Read
@[expose] public section

noncomputable section
namespace Moba.AttnIn
open Idealize.ShloMosaic Idealize.ShloMosaic.TcCoe Idealize.ShloMosaic.Tactic

/-- The projection of the rows' norm. -/
def proj (x : Vec Ideal ⟨2, ![16384, 2048]⟩ .f32) (g : Vec Ideal ⟨2, ![1, 2048]⟩ .f32) (w : Vec Ideal ⟨2, ![2048, 8192]⟩ .f32)
    (r : Fin 16384) (j : Fin 8192) : EReal :=
  ∑ k : Fin 2048, normed (fun k => x (ix2 r k)) (fun k => g (ix2 0 k)) k * w (ix2 k j)

/-- The column in the other half of a column's head. -/
def turn (j : ℕ) : ℕ := j / 128 * 128 + (j % 128 + 64) % 128

/-- The result: the projection, with its first 4096 columns (the queries and the keys) turned by the tables. -/
def result (x : Vec Ideal ⟨2, ![16384, 2048]⟩ .f32) (g : Vec Ideal ⟨2, ![1, 2048]⟩ .f32) (w : Vec Ideal ⟨2, ![2048, 8192]⟩ .f32)
    (tab : Vec Ideal ⟨4, ![2, 2, 2048, 128]⟩ .f32) (i : (⟨2, ![16384, 8192]⟩ : Shape).Idx) : EReal :=
  if h : (i 1).val < 4096 then
    proj x g w (i 0) (i 1) * tab (ix4 ⟨(i 1).val / 2048, by omega⟩ 0 ⟨(i 0).val % 2048, by omega⟩ ⟨(i 1).val % 128, by omega⟩)
      + proj x g w (i 0) ⟨turn (i 1).val, by unfold turn; omega⟩
        * tab (ix4 ⟨(i 1).val / 2048, by omega⟩ 1 ⟨(i 0).val % 2048, by omega⟩ ⟨(i 1).val % 128, by omega⟩)
  else proj x g w (i 0) (i 1)

/-- A turned column of the result. -/
theorem result_rope (x : Vec Ideal ⟨2, ![16384, 2048]⟩ .f32) (g : Vec Ideal ⟨2, ![1, 2048]⟩ .f32) (w : Vec Ideal ⟨2, ![2048, 8192]⟩ .f32)
    (tab : Vec Ideal ⟨4, ![2, 2, 2048, 128]⟩ .f32) (r : Fin 16384) (j : Fin 8192) (h : j.val < 4096) (q : Fin 2) (s : Fin 2048) (e : Fin 128)
    (t : Fin 8192) (hq : q.val = j.val / 2048) (hs : s.val = r.val % 2048) (he : e.val = j.val % 128) (ht : t.val = turn j.val) :
    result x g w tab (ix2 r j) = proj x g w r j * tab (ix4 q 0 s e) + proj x g w r t * tab (ix4 q 1 s e) := by
  unfold result
  rw [dif_pos (show ((ix2 r j : (⟨2, ![16384, 8192]⟩ : Shape).Idx) 1).val < 4096 from h)]
  rw [show q = ⟨j.val / 2048, by omega⟩ from Fin.ext hq, show s = ⟨r.val % 2048, by omega⟩ from Fin.ext hs,
    show e = ⟨j.val % 128, by omega⟩ from Fin.ext he, show t = ⟨turn j.val, by unfold turn; omega⟩ from Fin.ext ht]
  rfl

/-- A column of the result that is not turned. -/
theorem result_plain (x : Vec Ideal ⟨2, ![16384, 2048]⟩ .f32) (g : Vec Ideal ⟨2, ![1, 2048]⟩ .f32) (w : Vec Ideal ⟨2, ![2048, 8192]⟩ .f32)
    (tab : Vec Ideal ⟨4, ![2, 2, 2048, 128]⟩ .f32) (r : Fin 16384) (j : Fin 8192) (h : ¬j.val < 4096) :
    result x g w tab (ix2 r j) = proj x g w r j :=
  dif_neg h

section Kernel
open Cert.AttnInIdeal Cert.AttnInIdeal.Gen

/-- A block of the projection, from the rows' norms and a block of the weights. -/
def prodBlock (n : Vec Ideal S1024x2048 .bf16) (w : Vec Ideal S2048x1024 .f32) (i : S1024x1024.Idx) : EReal :=
  ∑ k : Fin 2048, (n (ix2 (i 0) k) * w (ix2 k (i 1)) : EReal)

/-- A block of the projection turned by a block of a pair of tables. -/
def ropeBlock (n : Vec Ideal S1024x2048 .bf16) (w : Vec Ideal S2048x1024 .f32) (tab : Vec Ideal S1x2x1024x128 .f32) (i : S1024x1024.Idx) : EReal :=
  have h : (i 1).val < 1024 := (i 1).isLt
  prodBlock n w i * tab (ix4 0 0 (i 0) ⟨(i 1).val % 128, by omega⟩)
    + prodBlock n w (ix2 (i 0) ⟨turn (i 1).val, by unfold turn; omega⟩) * tab (ix4 0 1 (i 0) ⟨(i 1).val % 128, by omega⟩)

/-- The product of the norms and the cast weights. -/
theorem prod_eq (n : Vec Ideal S1024x2048 .bf16) (w : Vec Ideal S2048x1024 .f32) : k0_pay40 (F := Ideal) n w = prodBlock n w := by
  funext i
  obtain ⟨r, j, rfl⟩ : ∃ (r : Fin 1024) (j : Fin 1024), i = ix2 r j := ⟨i 0, i 1, by idx_vars i⟩
  exact product_apply (φ₁ := .bf16) (φ₂ := .bf16) n w r j

/-- The product of the norms and the cast weights, cast. -/
theorem plain_eq (n : Vec Ideal S1024x2048 .bf16) (w : Vec Ideal S2048x1024 .f32) : k0_pay7 (F := Ideal) n w = prodBlock n w := by
  funext i
  obtain ⟨r, j, rfl⟩ : ∃ (r : Fin 1024) (j : Fin 1024), i = ix2 r j := ⟨i 0, i 1, by idx_vars i⟩
  exact product_apply (φ₁ := .bf16) (φ₂ := .bf16) n w r j

/-- Rows of the weights, cast and stored. -/
theorem cast_piece {o : ℕ} {sp : Space} {mr : Memref sig .tc sp S2048x1024 .f32} (hm : mr.IsWhole) (w : Vec Ideal S2048x1024 .f32) (inb) {ht hc}
    (r : Fin 256) (j : Fin 1024) (h0 : o + r.val < 2048) (h1 : 0 + j.val < 1024) :
    (shapeCast S256x1024 (truncf (F := Ideal) (s := S256x1024) (φ := .f32) .bf16 (View.readAt (Elt Ideal) mr.view
      (Rect.unit (s := S2048x1024) ![o, 0] S256x1024.size inb).toLoadRect (hm.unread w)) ht) hc : FVec Ideal S256x1024 .bf16) (ix2 r j)
      = w (ix2 ⟨o + r.val, h0⟩ ⟨0 + j.val, h1⟩) :=
  (shapeCast_apply _ _ _ (ix2 r j) rfl).trans (load_apply hm w inb r j h0 h1)

/-- A table of a block, loaded. -/
theorem table_load {q : Fin 2} {sp : Space} {mr : Memref sig .tc sp S1x2x1024x128 .f32} (hm : mr.IsWhole) (tab : Vec Ideal S1x2x1024x128 .f32)
    (inb) {hc} (r : Fin 1024) (d : Fin 128) :
    shapeCast S1024x128 (View.readAt (Elt Ideal) mr.view
      (Rect.unit (s := S1x2x1024x128) ![0, q.val, 0, 0] S1x1x1024x128.size inb).toLoadRect (hm.unread tab)) hc (ix2 r d) = tab (ix4 0 q r d) := by
  rw [show ∀ X : S1x1x1024x128.Idx → EReal, shapeCast S1024x128 X hc (ix2 r d) = X (ix4 0 0 r d) from fun X => by pointwise]
  rw [View.readAt_apply, hm.read_unread]
  refine congrArg tab ?_
  funext a
  refine Fin.ext ?_
  match a with
  | ⟨0, _⟩ => rfl
  | ⟨1, _⟩ => show q.val + 1 * 0 = q.val; omega
  | ⟨2, _⟩ => show 0 + 1 * r.val = r.val; omega
  | ⟨3, _⟩ => show 0 + 1 * d.val = d.val; omega

/-- The lanes of a head, turned by half a head. -/
theorem turned_lane (X : S1024x128.Idx → EReal) {hr} (r : Fin 1024) (d : Fin 128) :
    dynamicRotate 1 64#32 none X hr (ix2 r d) = X (ix2 r ⟨(d.val + 64) % 128, by omega⟩) := by
  unfold dynamicRotate
  refine congrArg X ?_
  funext b
  refine Fin.ext ?_
  match b with
  | ⟨0, _⟩ => rfl
  | ⟨1, _⟩ => show (d.val + 128 - 64 % 128) % 128 = (d.val + 64) % 128; omega

/-- One head of the rotary embedding, as the kernel computes and stores it. -/
theorem rope_piece {p : ℕ} (hp : p % 128 = 0) {n : Vec Ideal S1024x2048 .bf16} {w : Vec Ideal S2048x1024 .f32} {tab : Vec Ideal S1x2x1024x128 .f32}
    {P : FVec Ideal S1024x1024 .f32} {C S : FVec Ideal S1024x128 .f32} (hP : P = prodBlock n w)
    (hC : ∀ (r : Fin 1024) (d : Fin 128), C (ix2 r d) = tab (ix4 0 0 r d)) (hS : ∀ (r : Fin 1024) (d : Fin 128), S (ix2 r d) = tab (ix4 0 1 r d))
    {hs hr ht} (r : Fin 1024) (d : Fin 128) (h0 : 0 + r.val < 1024) (h1 : p + d.val < 1024) :
    (truncf .bf16 (addf (mulf (extractStridedSlice S1024x128 ![0, p] P hs) C)
      (mulf (dynamicRotate 1 64#32 none (extractStridedSlice S1024x128 ![0, p] P hs) hr) S)) ht : FVec Ideal S1024x128 .bf16) (ix2 r d)
      = ropeBlock n w tab (ix2 ⟨0 + r.val, h0⟩ ⟨p + d.val, h1⟩) := by
  subst hP
  have hpd : p + 128 ≤ 1024 := by omega
  have slice : ∀ e : Fin 128, extractStridedSlice S1024x128 ![0, p] (prodBlock n w) hs (ix2 r e) = prodBlock n w (ix2 r ⟨p + e.val, by omega⟩) := by
    intro e
    refine congrArg (prodBlock n w) ?_
    funext a
    refine Fin.ext ?_
    match a with
    | ⟨0, _⟩ => show 0 + r.val = r.val; omega
    | ⟨1, _⟩ => rfl
  have e1 : (⟨0 + r.val, h0⟩ : Fin 1024) = r := Fin.ext (Nat.zero_add _)
  have e2 : (p + d.val) % 128 = d.val := by omega
  have e3 : turn (p + d.val) = p + (d.val + 64) % 128 := by unfold turn; omega
  have rot : dynamicRotate 1 64#32 none (extractStridedSlice S1024x128 ![0, p] (prodBlock n w) hs) hr (ix2 r d)
      = prodBlock n w (ix2 r ⟨p + (d.val + 64) % 128, by omega⟩) := by
    exact (turned_lane _ r d).trans (slice ⟨(d.val + 64) % 128, by omega⟩)
  rw [e1]
  unfold ropeBlock
  refine congrArg₂ (fun u v : EReal => u + v) (congrArg₂ (fun u v : EReal => u * v) (slice d) ((hC r d).trans (congrArg tab ?_)))
    (congrArg₂ (fun u v : EReal => u * v) (rot.trans (congrArg (prodBlock n w) ?_)) ((hS r d).trans (congrArg tab ?_)))
  · exact congrArg (ix4 0 0 r) (Fin.ext e2.symm)
  · exact congrArg (ix2 r) (Fin.ext e3.symm)
  · exact congrArg (ix4 0 1 r) (Fin.ext e2.symm)

section Point

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x1024 .f32) (harg4 : arg4.IsWhole)
  (arg5 : Memref sig .tc .vmem S1x2x1024x128 .f32) (harg5 : arg5.IsWhole) (arg6 : Memref sig .tc .vmem S1024x1024 .bf16) (harg6 : arg6.IsWhole)
  (arg7 : Memref sig .tc .vmem S1024x2048 .bf16) (harg7 : arg7.IsWhole) (arg8 : Memref sig .tc .vmem S2048x1024 .bf16) (harg8 : arg8.IsWhole)
  (x0 : Vec Ideal S1024x2048 .f32) (x1 : Vec Ideal S1x2048 .f32) (x2 : Vec Ideal S2048x1024 .f32) (x3 : Vec Ideal S1x2x1024x128 .f32)

section
attribute [local irreducible] shapeCast mulf multiReduction addf divf rsqrt broadcastTo truncf
set_option maxRecDepth 16384

/-- At the first point of each block of rows, the sixteen stores leave the norm of the rows. -/
theorem norm_pieces (hc0 : cond0_0 i) (hc1 : ¬cond0_1 i) (hc2 : ¬cond0_2 i) : View.PiecesOf (Val := Elt Ideal) (e := .bf16) (normBlock x0 x1)
    (kernelRun0_A (F := Ideal) c i arg2 harg2 arg3 harg3 arg4 harg4 arg5 harg5 arg6 harg6 arg7 harg7 arg8 harg8 hc0 hc1 hc2 x0 x1 x2 x3).2.1 := by
  iterate 16 refine pieces_step ?_ ?_; rotate_left
  · trivial
  all_goals exact norm_piece (load_rows harg2 x0 _) (load_whole harg3 x1 _)

/-- The eight stores of cast rows leave the weights. -/
theorem weights_pieces : View.PiecesOf (Val := Elt Ideal) (e := .bf16) (x2 : S2048x1024.Idx → EReal) (kernelRun0_C.sl.HS1_8 (F := Ideal) c arg4 harg4 x2) := by
  iterate 8 refine pieces_step ?_ ?_; rotate_left
  · trivial
  all_goals exact cast_piece harg4 x2 _

end

include i harg4 arg5 harg5 arg6 harg6 harg7 arg8 harg8 x2 x3 in
/-- The norms are read back. -/
theorem norm_read (hc0 : cond0_0 i) (hc1 : ¬cond0_1 i) (hc2 : ¬cond0_2 i) :
    kernelRun0_A.sl.v339 (F := Ideal) c arg2 harg2 arg3 harg3 arg7 x0 x1 = normBlock x0 x1 :=
  readback_whole (norm_pieces c i arg2 harg2 arg3 harg3 arg4 harg4 arg5 harg5 arg6 harg6 arg7 harg7 arg8 harg8 x0 x1 x2 x3 hc0 hc1 hc2) (scover0_A_0 (F := Ideal) c i arg2 harg2 arg3 harg3 arg4 harg4 arg5 harg5 arg6 harg6 arg7 harg7 arg8 harg8 hc0 hc1 hc2 x0 x1 x2 x3)

/-- The cast weights are read back. -/
theorem weights_read : kernelRun0_C.sl.v52 (F := Ideal) c arg4 harg4 arg8 x2 = x2 :=
  readback_whole (weights_pieces c arg4 harg4 x2) (View.cover_of_tiledBy _ ![256, 1024] (by sl_kernel_rfl))

section
attribute [local irreducible] shapeCast mulf addf truncf dynamicRotate extractStridedSlice
set_option maxRecDepth 16384

/-- At the first point of each block of rows, the eight stores leave the turned heads. -/
theorem first_pieces (hc0 : cond0_0 i) (hc1 : ¬cond0_1 i) (hc2 : ¬cond0_2 i) : View.PiecesOf (Val := Elt Ideal) (e := .bf16)
    (ropeBlock (normBlock x0 x1) x2 x3) (kernelRun0_A (F := Ideal) c i arg2 harg2 arg3 harg3 arg4 harg4 arg5 harg5 arg6 harg6 arg7 harg7 arg8 harg8 hc0 hc1 hc2 x0 x1 x2 x3).1 := by
  have hP : k0_pay40 (F := Ideal) (kernelRun0_A.sl.v339 (F := Ideal) c arg2 harg2 arg3 harg3 arg7 x0 x1)
      (kernelRun0_A.sl.v340 (F := Ideal) c arg4 harg4 arg8 x2) = prodBlock (normBlock x0 x1) x2 :=
    (congrArg₂ k0_pay40 (norm_read c i arg2 harg2 arg3 harg3 arg4 harg4 arg5 harg5 arg6 harg6 arg7 harg7 arg8 harg8 x0 x1 x2 x3 hc0 hc1 hc2) (weights_read c arg4 harg4 arg8 x2)).trans (prod_eq _ _)
  iterate 8 refine pieces_step ?_ ?_; rotate_left
  · trivial
  all_goals exact rope_piece (by decide) hP (table_load (q := 0) harg5 x3 _) (table_load (q := 1) harg5 x3 _)

/-- At the other points of the queries and keys, they do too. -/
theorem later_pieces (hc0 : ¬cond0_0 i) (hc1 : cond0_1 i) (hc2 : ¬cond0_2 i) (n : Vec Ideal S1024x2048 .bf16) :
    View.PiecesOf (Val := Elt Ideal) (e := .bf16) (ropeBlock n x2 x3) (kernelRun0_B (F := Ideal) c i arg2 harg2 arg3 harg3 arg4 harg4 arg5 harg5 arg6 harg6 arg7 harg7 arg8 harg8 hc0 hc1 hc2 x0 x1 x2 x3 n).1 := by
  have hP : kernelRun0_B.sl.r (F := Ideal) c arg4 harg4 arg7 harg7 arg8 x2 n = prodBlock n x2 :=
    (congrArg₂ k0_pay40 (load_whole harg7 n _) (weights_read c arg4 harg4 arg8 x2)).trans (prod_eq _ _)
  iterate 8 refine pieces_step ?_ ?_; rotate_left
  · trivial
  all_goals exact rope_piece (by decide) hP (table_load (q := 0) harg5 x3 _) (table_load (q := 1) harg5 x3 _)

end

/-- The first point of a block of rows leaves the turned heads of its own norms. -/
theorem first_out (hc0 : cond0_0 i) (hc1 : ¬cond0_1 i) (hc2 : ¬cond0_2 i) :
    out0_A_4 (F := Ideal) c i arg2 harg2 arg3 harg3 arg4 harg4 arg5 harg5 arg6 harg6 arg7 harg7 arg8 harg8 hc0 hc1 hc2 x0 x1 x2 x3 = ropeBlock (normBlock x0 x1) x2 x3 := by
  unfold out0_A_4
  rw [View.read_writes_junk_eq_canon]
  funext y
  exact View.canon_apply_of_pieces _ _ (View.PiecesOf.mem (first_pieces c i arg2 harg2 arg3 harg3 arg4 harg4 arg5 harg5 arg6 harg6 arg7 harg7 arg8 harg8 x0 x1 x2 x3 hc0 hc1 hc2)) y (cover0_A_4 (F := Ideal) c i arg2 harg2 arg3 harg3 arg4 harg4 arg5 harg5 arg6 harg6 arg7 harg7 arg8 harg8 hc0 hc1 hc2 x0 x1 x2 x3 y)

/-- It leaves the norms of its rows in the buffer. -/
theorem first_norm (hc0 : cond0_0 i) (hc1 : ¬cond0_1 i) (hc2 : ¬cond0_2 i) : sout0_A_0 (F := Ideal) c i arg2 harg2 arg3 harg3 arg4 harg4 arg5 harg5 arg6 harg6 arg7 harg7 arg8 harg8 hc0 hc1 hc2 x0 x1 x2 x3 = normBlock x0 x1 := by
  unfold sout0_A_0
  rw [View.read_writes_junk_eq_canon]
  funext y
  exact View.canon_apply_of_pieces _ _ (View.PiecesOf.mem (norm_pieces c i arg2 harg2 arg3 harg3 arg4 harg4 arg5 harg5 arg6 harg6 arg7 harg7 arg8 harg8 x0 x1 x2 x3 hc0 hc1 hc2)) y (scover0_A_0 (F := Ideal) c i arg2 harg2 arg3 harg3 arg4 harg4 arg5 harg5 arg6 harg6 arg7 harg7 arg8 harg8 hc0 hc1 hc2 x0 x1 x2 x3 y)

/-- A later point of the queries or keys leaves the turned heads of the norms it finds. -/
theorem later_out (hc0 : ¬cond0_0 i) (hc1 : cond0_1 i) (hc2 : ¬cond0_2 i) (n : Vec Ideal S1024x2048 .bf16) :
    out0_B_4 (F := Ideal) c i arg2 harg2 arg3 harg3 arg4 harg4 arg5 harg5 arg6 harg6 arg7 harg7 arg8 harg8 hc0 hc1 hc2 x0 x1 x2 x3 n = ropeBlock n x2 x3 := by
  unfold out0_B_4
  rw [View.read_writes_junk_eq_canon]
  funext y
  exact View.canon_apply_of_pieces _ _ (View.PiecesOf.mem (later_pieces c i arg2 harg2 arg3 harg3 arg4 harg4 arg5 harg5 arg6 harg6 arg7 harg7 arg8 harg8 x0 x1 x2 x3 hc0 hc1 hc2 n)) y (cover0_B_4 (F := Ideal) c i arg2 harg2 arg3 harg3 arg4 harg4 arg5 harg5 arg6 harg6 arg7 harg7 arg8 harg8 hc0 hc1 hc2 x0 x1 x2 x3 n y)

/-- A point of the values or gates leaves the product of the norms it finds. -/
theorem plain_out (hc0 : ¬cond0_0 i) (hc1 : ¬cond0_1 i) (hc2 : cond0_2 i) (n : Vec Ideal S1024x2048 .bf16) :
    out0_C_4 (F := Ideal) c i arg2 harg2 arg3 harg3 arg4 harg4 arg5 harg5 arg6 harg6 arg7 harg7 arg8 harg8 hc0 hc1 hc2 x0 x1 x2 x3 n = prodBlock n x2 := by
  unfold out0_C_4
  rw [View.read_writes_junk_eq_canon]
  refine (View.canon_cons_unit_lit _ _ _ (by decide)).trans ?_
  exact (congrArg₂ k0_pay7 (load_whole harg7 n _) (weights_read c arg4 harg4 arg8 x2)).trans (plain_eq _ _)

end Point

variable (m : (ℓ : Loc nD τ sig) → Buf (Elt Ideal) ℓ)

/-- The windows' block indices. -/
theorem indices : ∀ t : Fin grid0.N,
    win0_0.index t = ![t.val / 8, 0] ∧ win0_1.index t = ![0, 0] ∧ win0_2.index t = ![0, t.val % 8]
    ∧ win0_3.index t = ![min (t.val % 8 / 2) 1, 0, t.val / 8 % 2, 0] ∧ win0_4.index t = ![t.val / 8, t.val % 8] := by
  decide +kernel

/-- There are 128 points. -/
theorem point_lt (t : Fin cfg0.N) : t.val < 128 := t.isLt

/-- The block of rows of a point. -/
def part (t : Fin cfg0.N) : Fin 16 := ⟨t.val / 8, by have := point_lt t; omega⟩

/-- The norm of a point's block of rows. -/
theorem normBlock_eq (c : Dev nD) (t : Fin cfg0.N) : normBlock (iblk (F := Ideal) m c 0 t) (iblk (F := Ideal) m c 1 t)
    = normRows (m ((c : Thread nD τ).loc main_arg0)) (m ((c : Thread nD τ).loc main_arg1)) (part t) := by
  have ht := point_lt t
  funext i
  obtain ⟨r, j, rfl⟩ : ∃ (r : Fin 1024) (j : Fin 2048), i = ix2 r j := ⟨i 0, i 1, by idx_vars i⟩
  have e0 : ∀ k : Fin 2048, iblk (F := Ideal) m c 0 t (ix2 r k) = m ((c : Thread nD τ).loc main_arg0) (ix2 ⟨t.val / 8 * 1024 + r.val, by omega⟩ k) :=
    fun k => by blk_ext [iblk, V_main_arg0, indices t]
  have e1 : ∀ j : Fin 2048, iblk (F := Ideal) m c 1 t (ix2 0 j) = m ((c : Thread nD τ).loc main_arg1) (ix2 0 j) :=
    fun j => by blk_ext [iblk, V_main_arg1, indices t]
  exact congrArg₂ (fun y g => normed y g j) (funext e0) (funext e1)

/-- What a point leaves in the result's block and in the buffer of norms. -/
def left (c : Dev nD) (t : Fin cfg0.N) : Vec Ideal S1024x1024 .bf16 × Vec Ideal S1024x2048 .bf16 :=
  (if t.val % 8 < 4 then
      ropeBlock (normRows (m ((c : Thread nD τ).loc main_arg0)) (m ((c : Thread nD τ).loc main_arg1)) (part t))
        (iblk (F := Ideal) m c 2 t) (iblk (F := Ideal) m c 3 t)
    else prodBlock (normRows (m ((c : Thread nD τ).loc main_arg0)) (m ((c : Thread nD τ).loc main_arg1)) (part t)) (iblk (F := Ideal) m c 2 t),
    normRows (m ((c : Thread nD τ).loc main_arg0)) (m ((c : Thread nD τ).loc main_arg1)) (part t))

/-- One point, after a point that left the norms of the same rows (or any, at the first point of a block of rows). -/
theorem step (c : Dev nD) (t : Fin cfg0.N) (acc : Vec Ideal S1024x1024 .bf16 × Vec Ideal S1024x2048 .bf16)
    (h : t.val % 8 ≠ 0 → acc.2 = normRows (m ((c : Thread nD τ).loc main_arg0)) (m ((c : Thread nD τ).loc main_arg1)) (part t)) :
    Value.stAt0 (F := Ideal) m c t.val t.isLt acc = left m c t := by
  unfold left
  by_cases h0 : t.val % 8 = 0
  · rw [Value.stAt0_A m c t acc h0 (by omega) (by omega), first_out, first_norm, normBlock_eq, if_pos (by omega)]
  · by_cases h1 : t.val % 8 < 4
    · rw [Value.stAt0_B m c t acc h0 (by omega) (by omega), later_out, h h0, if_pos h1]
      rfl
    · rw [Value.stAt0_C m c t acc h0 (by omega) (by omega), plain_out, h h0, if_neg h1]
      rfl

/-- What every point leaves. -/
theorem left_at (c : Dev nD) : ∀ (n : ℕ) (hn : n < cfg0.N), outsAt0 (F := Ideal) m c n hn = left m c ⟨n, hn⟩
  | 0, hn => (Value.outsAt0_zero m c hn).trans (step m c ⟨0, hn⟩ _ fun h => absurd rfl h)
  | n + 1, hn => (Value.outsAt0_succ m c n hn).trans (step m c ⟨n + 1, hn⟩ _ fun h => by
      rw [left_at c n (Nat.lt_of_succ_lt hn)]
      refine congrArg (normRows _ _) (Fin.ext ?_)
      show n / 8 = (n + 1) / 8
      change (n + 1) % 8 ≠ 0 at h
      omega)

/-- A block of the projection is a part of the projection. -/
theorem prodBlock_eq (c : Dev nD) (t : Fin cfg0.N) (r d : Fin 1024) (R : Fin 16384) (J : Fin 8192) (hR : R.val = t.val / 8 * 1024 + r.val)
    (hJ : J.val = t.val % 8 * 1024 + d.val) :
    prodBlock (normRows (m ((c : Thread nD τ).loc main_arg0)) (m ((c : Thread nD τ).loc main_arg1)) (part t)) (iblk (F := Ideal) m c 2 t) (ix2 r d)
      = proj (m ((c : Thread nD τ).loc main_arg0)) (m ((c : Thread nD τ).loc main_arg1)) (m ((c : Thread nD τ).loc main_arg2)) R J := by
  have ht := point_lt t
  rw [show R = ⟨t.val / 8 * 1024 + r.val, by omega⟩ from Fin.ext hR, show J = ⟨t.val % 8 * 1024 + d.val, by omega⟩ from Fin.ext hJ]
  have e2 : ∀ k : Fin 2048, iblk (F := Ideal) m c 2 t (ix2 k d) = m ((c : Thread nD τ).loc main_arg2) (ix2 k ⟨t.val % 8 * 1024 + d.val, by omega⟩) :=
    fun k => by blk_ext [iblk, V_main_arg2, indices t]
  show (∑ k : Fin 2048, (normRows _ _ (part t) (ix2 r k) * iblk (F := Ideal) m c 2 t (ix2 k d) : EReal)) = _
  simp only [e2]
  rfl

/-- The result after the run. -/
theorem kernel_value (c : Dev nD) :
    (dats (F := Ideal) m 0 c).arrAt 4 cfg0.N = result (m ((c : Thread nD τ).loc main_arg0)) (m ((c : Thread nD τ).loc main_arg1))
      (m ((c : Thread nD τ).loc main_arg2)) (m ((c : Thread nD τ).loc main_arg3)) := by
  refine (dats (F := Ideal) m 0 c).arrAt_eq_of_covers 4 _ (by decide +kernel) fun t hf y => ?_
  have ht := point_lt t
  blk_simp
  rw [after0_4, left_at]
  obtain ⟨r, d, rfl⟩ : ∃ (r : Fin 1024) (d : Fin 1024), y = ix2 r d := ⟨y 0, y 1, by idx_vars y⟩
  refine Eq.trans (b := result (m ((c : Thread nD τ).loc main_arg0)) (m ((c : Thread nD τ).loc main_arg1))
      (m ((c : Thread nD τ).loc main_arg2)) (m ((c : Thread nD τ).loc main_arg3))
        (ix2 ⟨t.val / 8 * 1024 + r.val, by omega⟩ ⟨t.val % 8 * 1024 + d.val, by omega⟩)) ?_ (congrArg (result _ _ _ _) ?_)
  · unfold left
    by_cases h : t.val % 8 < 4
    · rw [if_pos h, result_rope _ _ _ _ _ _ (by show t.val % 8 * 1024 + d.val < 4096; omega) ⟨min (t.val % 8 / 2) 1, by omega⟩
        ⟨t.val / 8 % 2 * 1024 + r.val, by omega⟩ ⟨d.val % 128, by omega⟩ ⟨t.val % 8 * 1024 + turn d.val, by unfold turn; omega⟩
        (by show min (t.val % 8 / 2) 1 = (t.val % 8 * 1024 + d.val) / 2048; omega)
        (by show t.val / 8 % 2 * 1024 + r.val = (t.val / 8 * 1024 + r.val) % 2048; omega)
        (by show d.val % 128 = (t.val % 8 * 1024 + d.val) % 128; omega)
        (by show t.val % 8 * 1024 + turn d.val = turn (t.val % 8 * 1024 + d.val); unfold turn; omega)]
      have e3 : ∀ (q : Fin 2) (e : Fin 128), iblk (F := Ideal) m c 3 t (ix4 0 q r e)
          = m ((c : Thread nD τ).loc main_arg3) (ix4 ⟨min (t.val % 8 / 2) 1, by omega⟩ q ⟨t.val / 8 % 2 * 1024 + r.val, by omega⟩ e) :=
        fun q e => by blk_ext [iblk, V_main_arg3, indices t]
      refine congrArg₂ (fun u v : EReal => u + v) (congrArg₂ (fun u v : EReal => u * v) (prodBlock_eq m c t r d _ _ rfl rfl) (e3 0 _))
        (congrArg₂ (fun u v : EReal => u * v) (prodBlock_eq m c t r ⟨turn d.val, by unfold turn; omega⟩ _ _ rfl rfl) (e3 1 _))
    · rw [if_neg h, result_plain _ _ _ _ _ _ (by show ¬t.val % 8 * 1024 + d.val < 4096; omega)]
      exact prodBlock_eq m c t r d _ _ rfl rfl
  · blk_ext [indices t]

end Kernel

section Reference
open Cert.AttnInReferenceIdeal Cert.AttnInReferenceIdeal.Read
variable (x : Vec Ideal S16384x2048 .f32) (g : Vec Ideal S1x2048 .f32) (w : Vec Ideal S2048x8192 .f32) (tab : Vec Ideal S2x2x2048x128 .f32)

/-- The reference's projection. -/
theorem proj_eq (r : Fin 16384) (j : Fin 8192) : val_main_v12 (F := Ideal) x g w (ix2 r j) = proj x g w r j := by
  rw [val_main_v12_apply]
  refine Finset.sum_congr rfl fun k _ => ?_
  rw [show lidx_main_v12 (ix2 r j) k = ix2 r k by blk_ext [lidx_main_v12], show ridx_main_v12 (ix2 r j) k = ix2 k j by blk_ext [ridx_main_v12]]
  exact congrArg (fun v : EReal => v * w (ix2 k j)) (ConvIn.norm_eq x g r k)

/-- The two halves of each head exchanged. -/
theorem turned_apply {X : S8x2048x16x128.Idx → EReal} {A B : S8x2048x16x64.Idx → EReal}
    (hA : ∀ b s h (e : Fin 64), A (ix4 b s h e) = X (ix4 b s h ⟨64 + e.val, by omega⟩))
    (hB : ∀ b s h (e : Fin 64), B (ix4 b s h e) = X (ix4 b s h ⟨e.val, by omega⟩)) {hc} (b : Fin 8) (s : Fin 2048) (h : Fin 16) (d : Fin 128) :
    concatenate S8x2048x16x128 3 [⟨S8x2048x16x64, A⟩, ⟨S8x2048x16x64, B⟩] hc (ix4 b s h d) = X (ix4 b s h ⟨(d.val + 64) % 128, by omega⟩) := by
  have others : ∀ (e : Fin 64) (a : Fin 4), a ≠ 3 → ((ix4 b s h e : S8x2048x16x64.Idx) a).val = ((ix4 b s h d : S8x2048x16x128.Idx) a).val := by
    intro e a ha
    match a with
    | ⟨0, _⟩ => rfl
    | ⟨1, _⟩ => rfl
    | ⟨2, _⟩ => rfl
    | ⟨3, _⟩ => exact absurd rfl ha
  by_cases hd : d.val < 64
  · refine (concatenate_apply_piece (t := S8x2048x16x128) 3 _ hc (ix4 b s h d) 0 (by show 0 < 2; omega) S8x2048x16x64 A rfl rfl 0 rfl
      (ix4 b s h ⟨d.val, hd⟩) (others _) (Nat.zero_add _)).trans ((hA _ _ _ _).trans (congrArg X (congrArg (ix4 b s h) (Fin.ext ?_))))
    show 64 + d.val = (d.val + 64) % 128
    omega
  · refine (concatenate_apply_piece (t := S8x2048x16x128) 3 _ hc (ix4 b s h d) 1 (by show 1 < 2; omega) S8x2048x16x64 B rfl rfl 64 rfl
      (ix4 b s h ⟨d.val - 64, by omega⟩) (others _) (by show 64 + (d.val - 64) = d.val; omega)).trans
      ((hB _ _ _ _).trans (congrArg X (congrArg (ix4 b s h) (Fin.ext ?_))))
    show d.val - 64 = (d.val + 64) % 128
    omega

/-- The reference's queries by head. -/
theorem query_head (b : Fin 8) (s : Fin 2048) (h : Fin 16) (d : Fin 128) : val_main_v21 (F := Ideal) x g w (ix4 b s h d)
    = proj x g w ⟨b.val * 2048 + s.val, by omega⟩ ⟨h.val * 128 + d.val, by omega⟩ := by
  rw [val_main_v21_apply, show idx_main_v21 (ix4 b s h d) = ix2 ⟨b.val * 2048 + s.val, by omega⟩ ⟨h.val * 128 + d.val, by omega⟩ by
    blk_ext [idx_main_v21], val_main_v13_apply, show idx_main_v13 (ix2 ⟨b.val * 2048 + s.val, by omega⟩ ⟨h.val * 128 + d.val, by omega⟩)
      = ix2 ⟨b.val * 2048 + s.val, by omega⟩ ⟨h.val * 128 + d.val, by omega⟩ by blk_ext [idx_main_v13], proj_eq]

/-- The reference's turned queries. -/
theorem query_eq (r : Fin 16384) (j : Fin 2048) : val_main_v32 (F := Ideal) x g w tab (ix2 r j)
    = result x g w tab (ix2 r ⟨j.val, by omega⟩) := by
  rw [result_rope x g w tab r ⟨j.val, by omega⟩ (by show j.val < 4096; omega) 0 ⟨r.val % 2048, by omega⟩ ⟨j.val % 128, by omega⟩
    ⟨turn j.val, by unfold turn; omega⟩ (by show 0 = (j.val) / 2048; omega) rfl (by show j.val % 128 = (j.val) % 128; omega)
    (by show turn j.val = turn (j.val); unfold turn; omega)]
  rw [val_main_v32_apply, show idx_main_v32 (ix2 r j) = ix4 ⟨r.val / 2048, by omega⟩ ⟨r.val % 2048, by omega⟩ ⟨j.val / 128, by omega⟩
    ⟨j.val % 128, by omega⟩ by blk_ext [idx_main_v32], val_main_v31_apply, val_main_v27_apply, val_main_v30_apply, query_head]
  generalize hs : (⟨r.val % 2048, by omega⟩ : Fin 2048) = s
  generalize hb : (⟨r.val / 2048, by omega⟩ : Fin 8) = b
  generalize hh : (⟨j.val / 128, by omega⟩ : Fin 16) = h
  generalize hd : (⟨j.val % 128, by omega⟩ : Fin 128) = d
  have vs : r.val % 2048 = s.val := congrArg Fin.val hs
  have vb : r.val / 2048 = b.val := congrArg Fin.val hb
  have vh : j.val / 128 = h.val := congrArg Fin.val hh
  have vd : j.val % 128 = d.val := congrArg Fin.val hd
  rw [show (⟨b.val * 2048 + s.val, by omega⟩ : Fin 16384) = r from Fin.ext (by show b.val * 2048 + s.val = r.val; omega),
    show (⟨h.val * 128 + d.val, by omega⟩ : Fin 8192) = ⟨j.val, by omega⟩ from Fin.ext (by show h.val * 128 + d.val = j.val; omega)]
  have cosines : val_main_v26 (F := Ideal) tab (ix4 b s h d) = tab (ix4 0 0 s d) := by
    rw [val_main_v26_apply, val_main_v25_apply, val_main_v18_apply, val_main_v17_apply]
    exact congrArg tab (by blk_ext [idx_main_v26, idx_main_v25, idx_main_v18, idx_main_v17])
  have sines : val_main_v29 (F := Ideal) tab (ix4 b s h d) = tab (ix4 0 1 s d) := by
    rw [val_main_v29_apply, val_main_v28_apply, val_main_v20_apply, val_main_v19_apply]
    exact congrArg tab (by blk_ext [idx_main_v29, idx_main_v28, idx_main_v20, idx_main_v19])
  have turned : val_main_v24 (F := Ideal) x g w (ix4 b s h d) = proj x g w r ⟨turn j.val, by unfold turn; omega⟩ := by
    unfold val_main_v24
    refine (turned_apply (X := val_main_v21 (F := Ideal) x g w) (fun b s h e => ?_) (fun b s h e => ?_) b s h d).trans ((query_head _ _ _ _ _ _ _).trans ?_)
    · exact (val_main_v22_apply _ _ _ _).trans (congrArg _ (by blk_ext [idx_main_v22]))
    · exact (val_main_v23_apply _ _ _ _).trans (congrArg _ (by blk_ext [idx_main_v23]))
    · refine congrArg₂ (proj x g w) (Fin.ext ?_) (Fin.ext ?_)
      · show b.val * 2048 + s.val = r.val
        omega
      · show h.val * 128 + (d.val + 64) % 128 = turn j.val
        unfold turn
        omega
  rw [cosines, sines, turned]
  rfl

/-- The reference's keys by head. -/
theorem key_head (b : Fin 8) (s : Fin 2048) (h : Fin 16) (d : Fin 128) : val_main_v37 (F := Ideal) x g w (ix4 b s h d)
    = proj x g w ⟨b.val * 2048 + s.val, by omega⟩ ⟨2048 + h.val * 128 + d.val, by omega⟩ := by
  rw [val_main_v37_apply, show idx_main_v37 (ix4 b s h d) = ix2 ⟨b.val * 2048 + s.val, by omega⟩ ⟨h.val * 128 + d.val, by omega⟩ by
    blk_ext [idx_main_v37], val_main_v14_apply, show idx_main_v14 (ix2 ⟨b.val * 2048 + s.val, by omega⟩ ⟨h.val * 128 + d.val, by omega⟩)
      = ix2 ⟨b.val * 2048 + s.val, by omega⟩ ⟨2048 + h.val * 128 + d.val, by omega⟩ by blk_ext [idx_main_v14], proj_eq]

/-- The reference's turned keys. -/
theorem key_eq (r : Fin 16384) (j : Fin 2048) : val_main_v48 (F := Ideal) x g w tab (ix2 r j)
    = result x g w tab (ix2 r ⟨2048 + j.val, by omega⟩) := by
  rw [result_rope x g w tab r ⟨2048 + j.val, by omega⟩ (by show 2048 + j.val < 4096; omega) 1 ⟨r.val % 2048, by omega⟩ ⟨j.val % 128, by omega⟩
    ⟨2048 + turn j.val, by unfold turn; omega⟩ (by show 1 = (2048 + j.val) / 2048; omega) rfl (by show j.val % 128 = (2048 + j.val) % 128; omega)
    (by show 2048 + turn j.val = turn (2048 + j.val); unfold turn; omega)]
  rw [val_main_v48_apply, show idx_main_v48 (ix2 r j) = ix4 ⟨r.val / 2048, by omega⟩ ⟨r.val % 2048, by omega⟩ ⟨j.val / 128, by omega⟩
    ⟨j.val % 128, by omega⟩ by blk_ext [idx_main_v48], val_main_v47_apply, val_main_v43_apply, val_main_v46_apply, key_head]
  generalize hs : (⟨r.val % 2048, by omega⟩ : Fin 2048) = s
  generalize hb : (⟨r.val / 2048, by omega⟩ : Fin 8) = b
  generalize hh : (⟨j.val / 128, by omega⟩ : Fin 16) = h
  generalize hd : (⟨j.val % 128, by omega⟩ : Fin 128) = d
  have vs : r.val % 2048 = s.val := congrArg Fin.val hs
  have vb : r.val / 2048 = b.val := congrArg Fin.val hb
  have vh : j.val / 128 = h.val := congrArg Fin.val hh
  have vd : j.val % 128 = d.val := congrArg Fin.val hd
  rw [show (⟨b.val * 2048 + s.val, by omega⟩ : Fin 16384) = r from Fin.ext (by show b.val * 2048 + s.val = r.val; omega),
    show (⟨2048 + h.val * 128 + d.val, by omega⟩ : Fin 8192) = ⟨2048 + j.val, by omega⟩ from Fin.ext (by show 2048 + h.val * 128 + d.val = 2048 + j.val; omega)]
  have cosines : val_main_v42 (F := Ideal) tab (ix4 b s h d) = tab (ix4 1 0 s d) := by
    rw [val_main_v42_apply, val_main_v41_apply, val_main_v34_apply, val_main_v33_apply]
    exact congrArg tab (by blk_ext [idx_main_v42, idx_main_v41, idx_main_v34, idx_main_v33])
  have sines : val_main_v45 (F := Ideal) tab (ix4 b s h d) = tab (ix4 1 1 s d) := by
    rw [val_main_v45_apply, val_main_v44_apply, val_main_v36_apply, val_main_v35_apply]
    exact congrArg tab (by blk_ext [idx_main_v45, idx_main_v44, idx_main_v36, idx_main_v35])
  have turned : val_main_v40 (F := Ideal) x g w (ix4 b s h d) = proj x g w r ⟨2048 + turn j.val, by unfold turn; omega⟩ := by
    unfold val_main_v40
    refine (turned_apply (X := val_main_v37 (F := Ideal) x g w) (fun b s h e => ?_) (fun b s h e => ?_) b s h d).trans ((key_head _ _ _ _ _ _ _).trans ?_)
    · exact (val_main_v38_apply _ _ _ _).trans (congrArg _ (by blk_ext [idx_main_v38]))
    · exact (val_main_v39_apply _ _ _ _).trans (congrArg _ (by blk_ext [idx_main_v39]))
    · refine congrArg₂ (proj x g w) (Fin.ext ?_) (Fin.ext ?_)
      · show b.val * 2048 + s.val = r.val
        omega
      · show 2048 + h.val * 128 + (d.val + 64) % 128 = 2048 + turn j.val
        unfold turn
        omega
  rw [cosines, sines, turned]
  rfl

/-- Four groups of columns side by side. -/
theorem fourths (A : Fin 4 → S16384x2048.Idx → EReal) {hc} (r : Fin 16384) (j : Fin 8192) (k : Fin 4) (e : Fin 2048) (he : k.val * 2048 + e.val = j.val) :
    concatenate S16384x8192 1 [⟨S16384x2048, A 0⟩, ⟨S16384x2048, A 1⟩, ⟨S16384x2048, A 2⟩, ⟨S16384x2048, A 3⟩] hc (ix2 r j) = A k (ix2 r e) := by
  have others : ∀ a : Fin 2, a ≠ 1 → ((ix2 r e : S16384x2048.Idx) a).val = ((ix2 r j : S16384x8192.Idx) a).val := by
    intro a ha
    match a with
    | ⟨0, _⟩ => rfl
    | ⟨1, _⟩ => exact absurd rfl ha
  have one : ∀ (q : ℕ) (hq : q < 4) (X : S16384x2048.Idx → EReal) (_ : [(⟨S16384x2048, A 0⟩ : (s : Shape) × (s.Idx → EReal)), ⟨S16384x2048, A 1⟩,
      ⟨S16384x2048, A 2⟩, ⟨S16384x2048, A 3⟩][q] = ⟨S16384x2048, X⟩) (_ : q * 2048 + e.val = j.val),
      concatenate S16384x8192 1 [⟨S16384x2048, A 0⟩, ⟨S16384x2048, A 1⟩, ⟨S16384x2048, A 2⟩, ⟨S16384x2048, A 3⟩] hc (ix2 r j) = X (ix2 r e) := by
    intro q hq X hX h
    refine concatenate_apply_piece (t := S16384x8192) 1 _ hc (ix2 r j) q hq S16384x2048 X hX rfl (q * 2048) ?_ (ix2 r e) others h
    obtain rfl | rfl | rfl | rfl : q = 0 ∨ q = 1 ∨ q = 2 ∨ q = 3 := by omega
    all_goals simp only [List.take_succ_cons, List.take_zero, List.map_cons, List.map_nil, List.sum_cons, List.sum_nil]
    all_goals rfl
  obtain ⟨q, hq⟩ := k
  obtain rfl | rfl | rfl | rfl : q = 0 ∨ q = 1 ∨ q = 2 ∨ q = 3 := by omega
  · exact one 0 (by omega) _ rfl he
  · exact one 1 (by omega) _ rfl he
  · exact one 2 (by omega) _ rfl he
  · exact one 3 (by omega) _ rfl he

/-- The reference computes the same result. -/
theorem reference_value : val_main_v50 (F := Ideal) x g w tab = result x g w tab := by
  funext i
  obtain ⟨r, j, rfl⟩ : ∃ (r : Fin 16384) (j : Fin 8192), i = ix2 r j := ⟨i 0, i 1, by idx_vars i⟩
  rw [val_main_v50_apply]
  have piece : ∀ (k : Fin 4) (e : Fin 2048), k.val * 2048 + e.val = j.val → val_main_v49 (F := Ideal) x g w tab (ix2 r j)
      = (![val_main_v32 (F := Ideal) x g w tab, val_main_v48 (F := Ideal) x g w tab, val_main_v15 (F := Ideal) x g w,
          val_main_v16 (F := Ideal) x g w] : Fin 4 → S16384x2048.Idx → EReal) k (ix2 r e) :=
    fun k e he => by
      unfold val_main_v49
      exact fourths ![val_main_v32 (F := Ideal) x g w tab, val_main_v48 (F := Ideal) x g w tab, val_main_v15 (F := Ideal) x g w,
        val_main_v16 (F := Ideal) x g w] r j k e he
  show val_main_v49 (F := Ideal) x g w tab (ix2 r j) = _
  by_cases h1 : j.val < 2048
  · exact (piece 0 ⟨j.val, h1⟩ (by show 0 * 2048 + j.val = j.val; omega)).trans (query_eq x g w tab r _)
  by_cases h2 : j.val < 4096
  · refine (piece 1 ⟨j.val - 2048, by omega⟩ (by show 1 * 2048 + (j.val - 2048) = j.val; omega)).trans
      ((key_eq x g w tab r _).trans (congrArg _ (congrArg (ix2 r) (Fin.ext ?_))))
    show 2048 + (j.val - 2048) = j.val
    omega
  have plain := result_plain x g w tab r j h2
  by_cases h3 : j.val < 6144
  · refine (piece 2 ⟨j.val - 4096, by omega⟩ (by show 2 * 2048 + (j.val - 4096) = j.val; omega)).trans (Eq.trans ?_ plain.symm)
    refine (val_main_v15_apply _ _ _ _).trans (Eq.trans (congrArg _ ?_) (proj_eq x g w r j))
    refine (show idx_main_v15 (ix2 r ⟨j.val - 4096, by omega⟩) = ix2 r ⟨4096 + (j.val - 4096), by omega⟩ by blk_ext [idx_main_v15]).trans
      (congrArg (ix2 r) (Fin.ext ?_))
    show 4096 + (j.val - 4096) = j.val
    omega
  · refine (piece 3 ⟨j.val - 6144, by omega⟩ (by show 3 * 2048 + (j.val - 6144) = j.val; omega)).trans (Eq.trans ?_ plain.symm)
    refine (val_main_v16_apply _ _ _ _).trans (Eq.trans (congrArg _ ?_) (proj_eq x g w r j))
    refine (show idx_main_v16 (ix2 r ⟨j.val - 6144, by omega⟩) = ix2 r ⟨6144 + (j.val - 6144), by omega⟩ by blk_ext [idx_main_v16]).trans
      (congrArg (ix2 r) (Fin.ext ?_))
    show 6144 + (j.val - 6144) = j.val
    omega

end Reference
end Moba.AttnIn
end
-- ==== Proof.AttnOut.lean ====
/-
  The attention layer's output projection, norm and residual sum: what the kernel leaves in its result, and the reference.
-/
module

public import proofs.«01_k».proof.Proof.Norm
public import proofs.«01_k».proof.Proof.Gen.AttnOutIdeal.Value
public import proofs.«01_k».proof.Proof.Gen.AttnOutReferenceIdeal.Read
@[expose] public section

noncomputable section
namespace Moba.AttnOut
open Idealize.ShloMosaic Idealize.ShloMosaic.TcCoe Idealize.ShloMosaic.Tactic
open Idealize.SL.Sem

/-- The layer's result: a row of the argument `x` plus the norm of a row of the product of `a` and `w`. -/
def result (a : Vec Ideal ⟨2, ![16384, 2048]⟩ .bf16) (x : Vec Ideal ⟨2, ![16384, 2048]⟩ .f32) (w : Vec Ideal ⟨2, ![2048, 2048]⟩ .bf16)
    (g : Vec Ideal ⟨2, ![1, 2048]⟩ .f32) (i : (⟨2, ![16384, 2048]⟩ : Shape).Idx) : EReal :=
  x i + normed (fun j => ∑ k : Fin 2048, (a (ix2 (i 0) k) * w (ix2 k j) : EReal)) (fun j => g (ix2 0 j)) (i 1)

section Kernel
open Cert.AttnOutIdeal Cert.AttnOutIdeal.Gen

variable (m : (ℓ : Loc nD τ sig) → Buf (Elt Ideal) ℓ)

/-- What one point computes, from the blocks it reads. -/
theorem payload_apply (a : Vec Ideal S512x2048 .bf16) (w : Vec Ideal S2048x2048 .bf16) (x : Vec Ideal S512x2048 .f32)
    (g : Vec Ideal S1x2048 .f32) (r : Fin 512) (j : Fin 2048) :
    k0_pay1 (F := Ideal) a w x g (ix2 r j)
      = x (ix2 r j) + normed (fun j => ∑ k : Fin 2048, (a (ix2 r k) * w (ix2 k j) : EReal)) (fun j => g (ix2 0 j)) j := by
  unfold k0_pay1
  refine congrArg (fun v : EReal => (x (ix2 r j) : EReal) + v) ?_
  refine (norm_apply _ _ r j).trans ?_
  exact congrArg (fun y => normed y (fun j => g (ix2 0 j)) j) (funext fun k => product_apply a w r k)

/-- The windows' block indices. -/
theorem indices : ∀ t : Fin grid0.N,
    win0_0.index t = ![t.val, 0] ∧ win0_1.index t = ![t.val, 0] ∧ win0_2.index t = ![0, 0] ∧ win0_3.index t = ![0, 0]
    ∧ win0_4.index t = ![t.val, 0] := by
  decide +kernel

/-- There are 32 points. -/
theorem point_lt (t : Fin cfg0.N) : t.val < 32 := t.isLt

/-- The result array after the run. -/
theorem kernel_value (c : Dev nD) :
    (dats (F := Ideal) m 0 c).arrAt 4 cfg0.N = result (m ((c : Thread nD τ).loc main_arg0)) (m ((c : Thread nD τ).loc main_arg1))
      (m ((c : Thread nD τ).loc main_arg2)) (m ((c : Thread nD τ).loc main_arg3)) := by
  refine (dats (F := Ideal) m 0 c).arrAt_eq_of_covers 4 _ (by decide +kernel) fun t hf y => ?_
  have ht := point_lt t
  blk_simp
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  obtain ⟨r, d, rfl⟩ : ∃ (r : Fin 512) (d : Fin 2048), y = ix2 r d := ⟨y 0, y 1, by idx_vars y⟩
  rw [payload_apply]
  have e0 : ∀ k : Fin 2048, iblk (F := Ideal) m c 0 t (ix2 r k) = m ((c : Thread nD τ).loc main_arg0) (ix2 ⟨t.val * 512 + r.val, by omega⟩ k) :=
    fun k => by blk_ext [iblk, V_main_arg0, indices t]
  have e1 : iblk (F := Ideal) m c 1 t (ix2 r d) = m ((c : Thread nD τ).loc main_arg1) (ix2 ⟨t.val * 512 + r.val, by omega⟩ d) := by
    blk_ext [iblk, V_main_arg1, indices t]
  have e2 : ∀ k j : Fin 2048, iblk (F := Ideal) m c 2 t (ix2 k j) = m ((c : Thread nD τ).loc main_arg2) (ix2 k j) :=
    fun k j => by blk_ext [iblk, V_main_arg2, indices t]
  have e3 : ∀ j : Fin 2048, iblk (F := Ideal) m c 3 t (ix2 0 j) = m ((c : Thread nD τ).loc main_arg3) (ix2 0 j) :=
    fun j => by blk_ext [iblk, V_main_arg3, indices t]
  simp only [e0, e1, e2, e3]
  refine Eq.trans (b := result (m ((c : Thread nD τ).loc main_arg0)) (m ((c : Thread nD τ).loc main_arg1))
      (m ((c : Thread nD τ).loc main_arg2)) (m ((c : Thread nD τ).loc main_arg3)) (ix2 ⟨t.val * 512 + r.val, by omega⟩ d)) rfl
    (congrArg (result _ _ _ _) ?_)
  blk_ext [indices t]

end Kernel

section Reference
open Cert.AttnOutReferenceIdeal Cert.AttnOutReferenceIdeal.Read

variable (a : Vec Ideal ⟨2, ![16384, 2048]⟩ .bf16) (x : Vec Ideal ⟨2, ![16384, 2048]⟩ .f32) (w : Vec Ideal ⟨2, ![2048, 2048]⟩ .bf16)
  (g : Vec Ideal ⟨2, ![1, 2048]⟩ .f32)

/-- The reference's product. -/
theorem product_eq (r : Fin 16384) (j : Fin 2048) :
    val_main_v2 (F := Ideal) a w (ix2 r j) = ∑ k : Fin 2048, (a (ix2 r k) * w (ix2 k j) : EReal) := by
  rw [val_main_v2_apply]
  refine Finset.sum_congr rfl fun k _ => ?_
  rw [val_main_v0_apply, val_main_v1_apply]
  refine congrArg₂ (fun u v : EReal => u * v) (congrArg a ?_) (congrArg w ?_)
  · blk_ext [lidx_main_v2]
  · blk_ext [ridx_main_v2]

/-- The scale of a row of the reference's product. -/
theorem scale_eq (r : Fin 16384) (j : Fin 2048) :
    val_main_v11 (F := Ideal) a w (ix2 r j) = scaleOf fun j => ∑ k : Fin 2048, (a (ix2 r k) * w (ix2 k j) : EReal) := by
  rw [val_main_v11_apply, val_main_v10_apply, val_main_v9_apply, val_main_v8_apply, val_main_cst_1_apply, val_main_v7_apply, val_main_v6_apply,
    val_main_cst_0_apply, val_main_v5_apply, val_main_v4_apply, val_main_cst_apply]
  unfold scaleOf
  refine congrArg (fun v : EReal => Ideal.rsqrt (Ideal.div v (Ideal.ofBits .f32 0x45000000#32) + Ideal.ofBits .f32 0x358637BD#32)) ?_
  refine (congrArg₂ (fun u v : EReal => u + v) Ideal.ofBits_zero_f32 (Finset.sum_congr rfl fun k _ => ?_)).trans (zero_add _)
  rw [val_main_v3_apply, show idx_main_v4 (idx_main_v5 (idx_main_v11 (ix2 r j))) k = ix2 r k by
    blk_ext [idx_main_v4, idx_main_v5, idx_main_v11], product_eq]
  rfl

/-- The reference computes the same array. -/
theorem reference_value : val_main_v15 (F := Ideal) a x w g = result a x w g := by
  funext i
  obtain ⟨r, j, rfl⟩ : ∃ (r : Fin 16384) (j : Fin 2048), i = ix2 r j := ⟨i 0, i 1, by idx_vars i⟩
  rw [val_main_v15_apply, val_main_v14_apply, val_main_v13_apply, val_main_v12_apply, scale_eq, product_eq,
    show idx_main_v13 (ix2 r j) = ix2 0 j by blk_ext [idx_main_v13]]
  rfl

end Reference
end Moba.AttnOut
end
-- ==== Proof.lean ====
/- The claims of this certificate: the frames of the kernel, of its idealization and of the idealized
   reference, the rewrite that separates the kernel from its idealization, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInIdeal.Value
public import proofs.«01_k».proof.Proof.Gen.AttnInReferenceIdeal
public import proofs.«01_k».proof.Proof.Gen.AttnInReferenceIdeal.Run
public import proofs.«01_k».proof.Proof.Gen.AttnInReferenceIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInReferenceIdeal
public import proofs.«01_k».proof.Proof.Gen.ConvInReferenceIdeal.Run
public import proofs.«01_k».proof.Proof.Gen.ConvInReferenceIdeal.Read
public import proofs.«01_k».proof.Proof.Arrays
public import proofs.«01_k».proof.Proof.Softmax
public import proofs.«01_k».proof.Proof.Finite
public import proofs.«01_k».proof.Proof.AttnIn
public import proofs.«01_k».proof.Proof.AttnOut
public import proofs.«01_k».proof.Proof.ConvIn
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs and changes none of its arguments. -/
theorem reference_frame : quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel and the reference both compute the layer's attention. -/
theorem same_value : algebraic_KernelIdeal_ReferenceIdeal_pre_finite_qk (hKernelIdeal := Cert.KernelIdeal.Gen.facts)
    (hReferenceIdeal := Cert.ReferenceIdeal.Gen.facts) (hPre_finite_qk := Moba.finite_facts) := fun m g m' g' hp hm => by
  have hx : ∀ c : Dev Cert.KernelIdeal.nD, Moba.RealQK (m ((c.tc : Thread Cert.KernelIdeal.nD Cert.KernelIdeal.τ).loc Cert.KernelIdeal.main_arg0)) :=
    fun c => Moba.realQK_of_finite _ (hp c)
  refine ⟨fun c => Moba.layer (m ((c.tc : Thread Cert.KernelIdeal.nD Cert.KernelIdeal.τ).loc Cert.KernelIdeal.main_arg0)), ?_, ?_⟩
  · exact (θ_run Cert.KernelIdeal.defs _ _).mono (fun r h c => ⟨(h c).1.trans (Moba.kernel_value m c (hx c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v76_eq, hm c]
    exact Moba.reference_value _ (hx c)

/-- The reference of the first call runs and changes none of its arguments. -/
theorem attnIn_frame : quiescent_AttnInReferenceIdeal (hAttnInReferenceIdeal := Cert.AttnInReferenceIdeal.Gen.facts) := fun m ρ _ =>
  (θ_run Cert.AttnInReferenceIdeal.defs _ _).mono (fun r h => ⟨fun c => (h c).2,
      Idealize.ShloMosaic.sem_eq_zero_of_no_sems (by decide) r.2⟩)
    (Cert.AttnInReferenceIdeal.Value.run (F := Ideal) m ρ)

/-- The reference of the attention layer's output projection runs and changes none of its arguments. -/
theorem attnOut_frame : quiescent_AttnOutReferenceIdeal (hAttnOutReferenceIdeal := Cert.AttnOutReferenceIdeal.Gen.facts) := fun m ρ _ =>
  (θ_run Cert.AttnOutReferenceIdeal.defs _ _).mono (fun r h => ⟨fun c => (h c).2,
      Idealize.ShloMosaic.sem_eq_zero_of_no_sems (by decide) r.2⟩)
    (Cert.AttnOutReferenceIdeal.Value.run (F := Ideal) m ρ)

/-- The reference of the convolution layer's norm and projection runs and changes none of its arguments. -/
theorem convIn_frame : quiescent_ConvInReferenceIdeal (hConvInReferenceIdeal := Cert.ConvInReferenceIdeal.Gen.facts) := fun m ρ _ =>
  (θ_run Cert.ConvInReferenceIdeal.defs _ _).mono (fun r h => ⟨fun c => (h c).2.2,
      Idealize.ShloMosaic.sem_eq_zero_of_no_sems (by decide) r.2⟩)
    (Cert.ConvInReferenceIdeal.Value.run (F := Ideal) m ρ)

/-- The kernel and the reference compute the same result of the first call. -/
theorem attnIn_value : algebraic_AttnInIdeal_AttnInReferenceIdeal (hAttnInIdeal := Cert.AttnInIdeal.Gen.facts)
    (hAttnInReferenceIdeal := Cert.AttnInReferenceIdeal.Gen.facts) := fun m g m' g' _ hm => by
  refine ⟨fun c => Moba.AttnIn.result (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)), ?_, ?_⟩
  · exact (θ_run Cert.AttnInIdeal.defs _ _).mono (fun r h c => ⟨(h c).1.trans (Moba.AttnIn.kernel_value m c), (h c).2⟩)
      (Cert.AttnInIdeal.Value.run_blocks (F := Ideal) m g)
  · refine (θ_run Cert.AttnInReferenceIdeal.defs _ _).mono (fun r h c => ⟨(h c).1.trans ?_, (h c).2⟩)
      (Cert.AttnInReferenceIdeal.Value.run (F := Ideal) m' g')
    obtain ⟨e0, e1, e2, e3⟩ := hm c
    rw [Cert.AttnInReferenceIdeal.Read.val_main_v50_eq, e0, e1, e2, e3]
    exact Moba.AttnIn.reference_value _ _ _ _

/-- The kernel and the reference compute the same result of the attention layer's output projection. -/
theorem attnOut_value : algebraic_AttnOutIdeal_AttnOutReferenceIdeal (hAttnOutIdeal := Cert.AttnOutIdeal.Gen.facts)
    (hAttnOutReferenceIdeal := Cert.AttnOutReferenceIdeal.Gen.facts) := fun m g m' g' _ hm => by
  refine ⟨fun c => Moba.AttnOut.result (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)), ?_, ?_⟩
  · exact (θ_run Cert.AttnOutIdeal.defs _ _).mono (fun r h c => ⟨(h c).1.trans (Moba.AttnOut.kernel_value m c), (h c).2⟩)
      (Cert.AttnOutIdeal.Value.run_blocks (F := Ideal) m g)
  · refine (θ_run Cert.AttnOutReferenceIdeal.defs _ _).mono (fun r h c => ⟨(h c).1.trans ?_, (h c).2⟩)
      (Cert.AttnOutReferenceIdeal.Value.run (F := Ideal) m' g')
    obtain ⟨e0, e1, e2, e3⟩ := hm c
    rw [Cert.AttnOutReferenceIdeal.Read.val_main_v15_eq, e0, e1, e2, e3]
    exact Moba.AttnOut.reference_value _ _ _ _

/-- The kernel and the reference compute the same two results of the convolution layer's norm and projection. -/
theorem convIn_value : algebraic_ConvInIdeal_ConvInReferenceIdeal (hConvInIdeal := Cert.ConvInIdeal.Gen.facts)
    (hConvInReferenceIdeal := Cert.ConvInReferenceIdeal.Gen.facts) := fun m g m' g' _ hm => by
  refine ⟨fun c => Moba.ConvIn.glu (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3)),
    fun c => Moba.ConvIn.silu (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)), ?_, ?_⟩
  · exact (θ_run Cert.ConvInIdeal.defs _ _).mono
      (fun r h c => ⟨(h c).1.trans (Moba.ConvIn.kernel_glu m c), (h c).2.1.trans (Moba.ConvIn.kernel_silu m c), (h c).2.2⟩)
      (Cert.ConvInIdeal.Value.run_blocks (F := Ideal) m g)
  · refine (θ_run Cert.ConvInReferenceIdeal.defs _ _).mono (fun r h c => ⟨(h c).1.trans ?_, (h c).2.1.trans ?_, (h c).2.2⟩)
      (Cert.ConvInReferenceIdeal.Value.run (F := Ideal) m' g')
    · obtain ⟨e0, e1, e2, e3⟩ := hm c
      rw [Cert.ConvInReferenceIdeal.Read.val_main_v26_eq, e0, e1, e2, e3]
      exact Moba.ConvIn.reference_glu _ _ _ _
    · obtain ⟨e0, e1, e2, _⟩ := hm c
      rw [Cert.ConvInReferenceIdeal.Read.val_main_v29_eq, e0, e1, e2]
      exact Moba.ConvIn.reference_silu _ _ _

/-- All the claims. -/
theorem claim : Cert.Claim := ⟨Cert.Kernel.Gen.facts, Cert.KernelIdeal.Gen.facts, Cert.ReferenceIdeal.Gen.facts,
  Cert.AttnIn.Gen.facts, Cert.AttnInIdeal.Gen.facts, Cert.AttnInReferenceIdeal.Gen.facts,
  Cert.AttnOut.Gen.facts, Cert.AttnOutIdeal.Gen.facts, Cert.AttnOutReferenceIdeal.Gen.facts,
  Cert.ConvIn.Gen.facts, Cert.ConvInIdeal.Gen.facts, Cert.ConvInReferenceIdeal.Gen.facts, Moba.finite_facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.AttnIn.Gen.frame m ρ,
  fun m ρ _ => Cert.AttnInIdeal.Gen.frame m ρ,
  attnIn_frame,
  fun m ρ _ => Cert.AttnOut.Gen.frame m ρ,
  fun m ρ _ => Cert.AttnOutIdeal.Gen.frame m ρ,
  attnOut_frame,
  fun m ρ _ => Cert.ConvIn.Gen.frame m ρ,
  fun m ρ _ => Cert.ConvInIdeal.Gen.frame m ρ,
  convIn_frame,
  IdealRules.named_const.statement Cert.KernelIdeal.κ "mask" .f32 0xF149F2CA#32 ⊥ rfl,
  same_value,
  trivial,
  attnIn_value,
  trivial,
  attnOut_value,
  trivial,
  convIn_value⟩

end Cert.Proof

end
